-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![16, 128, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = Layout.block ⟨3, ![2, 128, 512]⟩ ⟨3, ![16, 128, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S16x128x32x64 : Shape := ⟨4, ![16, 128, 32, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S16x128x32x64 : S_.BroadcastsInDim S16x128x32x64 (![] : Fin 0 → Fin S16x128x32x64.rank)

variable [Facts]

def fn {F : FTy → Type} [FloatOps F] (main_arg0 : FVec F S2x128x512 .f32) (main_arg1 : FVec F S512x256 .f32) (main_arg2 : FVec F S16x128x32x64 .f32) (main_arg3 : FVec F S16x128x32x64 .f32) (main_arg4 : FVec F S256x512 .f32) : IVec S2x128x512 1 × IVec S512x256 1 × IVec S16x128x32x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S16x128x32x64 .f32 := Host.absf main_arg2
  let main_cst_1 : FVec F S_ .f32 := constant S_ .f32 0x7F800000#32
  let main_v7 : FVec F S16x128x32x64 .f32 := broadcastInDim S16x128x32x64 ![] bcast_S_S16x128x32x64 main_cst_1
  let main_v8 : IVec S16x128x32x64 1 := cmpf .olt main_v6 main_v7
  (main_v2, main_v5, main_v8)
-- ==== Pre_finite_ReferenceIdeal.lean ====
abbrev S16x128x512 : Shape := ⟨3, ![16, 128, 512]⟩
abbrev S512x2048 : Shape := ⟨2, ![512, 2048]⟩
abbrev S16x128x32x64 : Shape := ⟨4, ![16, 128, 32, 64]⟩
abbrev S2048x512 : Shape := ⟨2, ![2048, 512]⟩
abbrev S_ : Shape := ⟨0, ![]⟩

class Facts : Prop where
  bcast_S_S16x128x512 : S_.BroadcastsInDim S16x128x512 (![] : Fin 0 → Fin S16x128x512.rank)
  bcast_S_S512x2048 : S_.BroadcastsInDim S512x2048 (![] : Fin 0 → Fin S512x2048.rank)
  bcast_S_S16x128x32x64 : S_.BroadcastsInDim S16x128x32x64 (![] : Fin 0 → Fin S16x128x32x64.rank)

variable [Facts]

def fn {F : FTy → Type} [FloatOps F] (main_arg0 : FVec F S16x128x512 .f32) (main_arg1 : FVec F S512x2048 .f32) (main_arg2 : FVec F S16x128x32x64 .f32) (main_arg3 : FVec F S16x128x32x64 .f32) (main_arg4 : FVec F S2048x512 .f32) : IVec S16x128x512 1 × IVec S512x2048 1 × IVec S16x128x32x64 1 :=
  let main_v0 : FVec F S16x128x512 .f32 := Host.absf main_arg0
  let main_cst : FVec F S_ .f32 := constant S_ .f32 0x7F800000#32
  let main_v1 : FVec F S16x128x512 .f32 := broadcastInDim S16x128x512 ![] bcast_S_S16x128x512 main_cst
  let main_v2 : IVec S16x128x512 1 := cmpf .olt main_v0 main_v1
  let main_v3 : FVec F S512x2048 .f32 := Host.absf main_arg1
  let main_cst_0 : FVec F S_ .f32 := constant S_ .f32 0x7F800000#32
  let main_v4 : FVec F S512x2048 .f32 := broadcastInDim S512x2048 ![] bcast_S_S512x2048 main_cst_0
  let main_v5 : IVec S512x2048 1 := cmpf .olt main_v3 main_v4
  let main_v6 : FVec F S16x128x32x64 .f32 := Host.absf main_arg2
  let main_cst_1 : FVec F S_ .f32 := constant S_ .f32 0x7F800000#32
  let main_v7 : FVec F S16x128x32x64 .f32 := broadcastInDim S16x128x32x64 ![] bcast_S_S16x128x32x64 main_cst_1
  let main_v8 : IVec S16x128x32x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S16x128x32x64 : Shape := ⟨4, ![16, 128, 32, 64]⟩
abbrev S256x512 : Shape := ⟨2, ![256, 512]⟩
abbrev S_ : Shape := ⟨0, ![]⟩
abbrev S2x128x32x64 : Shape := ⟨4, ![2, 128, 32, 64]⟩
abbrev S2x128x2048 : Shape := ⟨3, ![2, 128, 2048]⟩
abbrev S8x512x256 : Shape := ⟨3, ![8, 512, 256]⟩
abbrev S8x256x512 : Shape := ⟨3, ![8, 256, 512]⟩
abbrev S8x256x256 : Shape := ⟨3, ![8, 256, 256]⟩
abbrev S7 : Shape := ⟨1, ![7]⟩
abbrev S8 : Shape := ⟨1, ![8]⟩
abbrev S1x512x256 : Shape := ⟨3, ![1, 512, 256]⟩
abbrev S1x256x512 : Shape := ⟨3, ![1, 256, 512]⟩
abbrev S128x128 : Shape := ⟨2, ![128, 128]⟩
abbrev S1 : Shape := ⟨1, ![1]⟩
abbrev S256x256 : Shape := ⟨2, ![256, 256]⟩
abbrev S1x128x256 : Shape := ⟨3, ![1, 128, 256]⟩
abbrev S128x256 : Shape := ⟨2, ![128, 256]⟩
abbrev S128x64 : Shape := ⟨2, ![128, 64]⟩
abbrev S1x128x128 : Shape := ⟨3, ![1, 128, 128]⟩
abbrev S8x128x128 : Shape := ⟨3, ![8, 128, 128]⟩
abbrev S8x128 : Shape := ⟨2, ![8, 128]⟩
abbrev S8x128x1 : Shape := ⟨3, ![8, 128, 1]⟩
abbrev S1x128x1 : Shape := ⟨3, ![1, 128, 1]⟩
abbrev S128x1 : Shape := ⟨2, ![128, 1]⟩
abbrev S1x128x64 : Shape := ⟨3, ![1, 128, 64]⟩
abbrev S1x256x256 : Shape := ⟨3, ![1, 256, 256]⟩

abbrev nBuf : Space → Nat
  | .hbm => 40
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S16x128x32x64, .f32⟩
  | .hbm, ⟨3, _⟩ => ⟨S16x128x32x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S256x512, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2x128x32x64, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2x128x32x64, .f32⟩
  | .hbm, ⟨34, _⟩ => ⟨S2x128x2048, .f32⟩
  | .hbm, ⟨35, _⟩ => ⟨S2x128x2048, .bf16⟩
  | .hbm, ⟨36, _⟩ => ⟨S2x128x2048, .f32⟩
  | .hbm, ⟨37, _⟩ => ⟨S2x128x2048, .bf16⟩
  | .hbm, ⟨38, _⟩ => ⟨S256x512, .f32⟩
  | .hbm, ⟨39, _⟩ => ⟨S2x128x512, .f32⟩
  | .local _ .vmem, ⟨0, _⟩ => ⟨S256x512, .f32⟩
  | .local _ .vmem, ⟨1, _⟩ => ⟨S512x256, .f32⟩
  | .local _ .vmem, ⟨2, _⟩ => ⟨S2x128x2048, .bf16⟩
  | .local _ .vmem, ⟨3, _⟩ => ⟨S2x128x2048, .bf16⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S8x512x256, .bf16⟩
  | .local _ .vmem, ⟨8, _⟩ => ⟨S8x256x512, .bf16⟩
  | .local _ .vmem, ⟨9, _⟩ => ⟨S8x256x256, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_c_6 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_c_9 : Ref sig .tc := ⟨.hbm, 27, rfl⟩
abbrev main_v13 : Ref sig .tc := ⟨.hbm, 28, rfl⟩
abbrev main_v14 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c1_i32_16 : BitVec 32 := 1#32
  let v28 : BitVec 32 := Scalar.muli v9 c1_i32_16
  let v29 : BitVec 32 := Scalar.addi c0_i32 v28
  v29.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c1_i32_18 : BitVec 32 := 1#32
  let v30 : BitVec 32 := Scalar.muli v11 c1_i32_18
  let v31 : BitVec 32 := Scalar.addi c0_i32_19 v30
  v31.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_21 : BitVec 32 := 1#32
  let v32 : BitVec 32 := Scalar.muli v20 c1_i32_21
  let v33 : BitVec 32 := Scalar.addi c0_i32_22 v32
  v33.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v43 : Index := Scalar.indexCast v2
  let c0_29 : Index := 0#32
  let c0_30 : Index := 0#32
  ![v43.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v50 : Index := Scalar.indexCast v2
  let c0_33 : Index := 0#32
  let c0_34 : Index := 0#32
  ![v50.toNat, 0, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_54 : BitVec 32 := 0#32
  let c0_i32_55 : BitVec 32 := 0#32
  ![v2.toNat, 0, 0]
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c1_i32_52 : BitVec 32 := 1#32
  let v116 : BitVec 32 := Scalar.muli v9 c1_i32_52
  let v117 : BitVec 32 := Scalar.addi c0_i32_53 v116
  v117.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c1_i32_59 : BitVec 32 := 1#32
  let v126 : BitVec 32 := Scalar.muli v11 c1_i32_59
  let v127 : BitVec 32 := Scalar.addi c0_i32_60 v126
  v127.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_66 : BitVec 32 := 1#32
  let v136 : BitVec 32 := Scalar.muli v20 c1_i32_66
  let v137 : BitVec 32 := Scalar.addi c0_i32_67 v136
  v137.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_75 : BitVec 32 := 0#32
  let c0_i32_76 : BitVec 32 := 0#32
  ![v2.toNat, 0, 0]
def k0_dev7 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_73 : BitVec 32 := 1#32
  let v146 : BitVec 32 := Scalar.muli v20 c1_i32_73
  let v147 : BitVec 32 := Scalar.addi c0_i32_74 v146
  v147.toNat
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c1_i32_80 : BitVec 32 := 1#32
  let v156 : BitVec 32 := Scalar.muli v11 c1_i32_80
  let v157 : BitVec 32 := Scalar.addi c0_i32_81 v156
  v157.toNat
def k0_dev9 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c1_i32_87 : BitVec 32 := 1#32
  let v166 : BitVec 32 := Scalar.muli v9 c1_i32_87
  let v167 : BitVec 32 := Scalar.addi c0_i32_88 v166
  v167.toNat
def k0_off6 (d0 : Dev nD) : Fin 3 → Nat :=
  let c0_97 : Index := 0#32
  let c0_98 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v182 : BitVec 32 := Scalar.muli v2 c256_i32
  let v183 : Index := Scalar.indexCast v182
  ![0, 0, v183.toNat]
def k0_off7 (d0 : Dev nD) : Fin 3 → Nat :=
  let c1 : Index := 1#32
  let c0_100 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_99 : BitVec 32 := 256#32
  let v186 : BitVec 32 := Scalar.muli v2 c256_i32_99
  let v187 : Index := Scalar.indexCast v186
  ![1, 0, v187.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v251 : Index := Scalar.indexCast v2
  let c0_119 : Index := 0#32
  let c0_120 : Index := 0#32
  ![v251.toNat, 0, 0]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v264 : Index := Scalar.indexCast v2
  let c0_122 : Index := 0#32
  let c64 : Index := 64#32
  ![v264.toNat, 0, 64]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v277 : Index := Scalar.indexCast v2
  let c0_124 : Index := 0#32
  let c128 : Index := 128#32
  ![v277.toNat, 0, 128]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v290 : Index := Scalar.indexCast v2
  let c0_126 : Index := 0#32
  let c192 : Index := 192#32
  ![v290.toNat, 0, 192]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v303 : Index := Scalar.indexCast v2
  let c128_128 : Index := 128#32
  let c0_129 : Index := 0#32
  ![v303.toNat, 128, 0]
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v316 : Index := Scalar.indexCast v2
  let c128_131 : Index := 128#32
  let c64_132 : Index := 64#32
  ![v316.toNat, 128, 64]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v329 : Index := Scalar.indexCast v2
  let c128_134 : Index := 128#32
  let c128_135 : Index := 128#32
  ![v329.toNat, 128, 128]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v342 : Index := Scalar.indexCast v2
  let c128_137 : Index := 128#32
  let c192_138 : Index := 192#32
  ![v342.toNat, 128, 192]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v346 : Index := Scalar.indexCast v2
  let c0_139 : Index := 0#32
  let c0_140 : Index := 0#32
  ![v346.toNat, 0, 0]
def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  ![v9.toNat]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c0_i32_149 : BitVec 32 := 0#32
  let c0_i32_150 : BitVec 32 := 0#32
  ![v9.toNat, 0, 0]
def k0_dev10 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c1_i32_154 : BitVec 32 := 1#32
  let v362 : BitVec 32 := Scalar.muli v11 c1_i32_154
  let v363 : BitVec 32 := Scalar.addi c0_i32_155 v362
  v363.toNat
def k0_dev11 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_161 : BitVec 32 := 1#32
  let v372 : BitVec 32 := Scalar.muli v20 c1_i32_161
  let v373 : BitVec 32 := Scalar.addi c0_i32_162 v372
  v373.toNat
def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  ![v20.toNat]
def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c0_i32_170 : BitVec 32 := 0#32
  let c0_i32_171 : BitVec 32 := 0#32
  ![v20.toNat, 0, 0]
def k0_dev12 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c1_i32_175 : BitVec 32 := 1#32
  let v390 : BitVec 32 := Scalar.muli v11 c1_i32_175
  let v391 : BitVec 32 := Scalar.addi c0_i32_176 v390
  v391.toNat
def k0_dev13 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c1_i32_182 : BitVec 32 := 1#32
  let v400 : BitVec 32 := Scalar.muli v9 c1_i32_182
  let v401 : BitVec 32 := Scalar.addi c0_i32_183 v400
  v401.toNat
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let v411 : Index := Scalar.indexCast v9
  let c0_190 : Index := 0#32
  let c0_191 : Index := 0#32
  ![v411.toNat, 0, 0]
def k0_off22 (d0 : Dev nD) : Fin 3 → Nat :=
  let c0_194 : Index := 0#32
  let c0_195 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c256_i32_193 : BitVec 32 := 256#32
  let v416 : BitVec 32 := Scalar.muli v9 c256_i32_193
  let v417 : Index := Scalar.indexCast v416
  ![0, 0, v417.toNat]
def k0_off23 (d0 : Dev nD) : Fin 3 → Nat :=
  let c1_197 : Index := 1#32
  let c0_198 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c256_i32_196 : BitVec 32 := 256#32
  let v420 : BitVec 32 := Scalar.muli v9 c256_i32_196
  let v421 : Index := Scalar.indexCast v420
  ![1, 0, v421.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let v485 : Index := Scalar.indexCast v9
  let c0_217 : Index := 0#32
  let c0_218 : Index := 0#32
  ![v485.toNat, 0, 0]
def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let v498 : Index := Scalar.indexCast v9
  let c0_220 : Index := 0#32
  let c64_221 : Index := 64#32
  ![v498.toNat, 0, 64]
def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let v511 : Index := Scalar.indexCast v9
  let c0_223 : Index := 0#32
  let c128_224 : Index := 128#32
  ![v511.toNat, 0, 128]
def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let v524 : Index := Scalar.indexCast v9
  let c0_226 : Index := 0#32
  let c192_227 : Index := 192#32
  ![v524.toNat, 0, 192]
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let v537 : Index := Scalar.indexCast v9
  let c128_229 : Index := 128#32
  let c0_230 : Index := 0#32
  ![v537.toNat, 128, 0]
def k0_off29 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let v550 : Index := Scalar.indexCast v9
  let c128_232 : Index := 128#32
  let c64_233 : Index := 64#32
  ![v550.toNat, 128, 64]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let v563 : Index := Scalar.indexCast v9
  let c128_235 : Index := 128#32
  let c128_236 : Index := 128#32
  ![v563.toNat, 128, 128]
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let v576 : Index := Scalar.indexCast v9
  let c128_238 : Index := 128#32
  let c192_239 : Index := 192#32
  ![v576.toNat, 128, 192]
def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  ![v11.toNat]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c0_i32_243 : BitVec 32 := 0#32
  let c0_i32_244 : BitVec 32 := 0#32
  ![v11.toNat, 0, 0]
def k0_dev14 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_247 : BitVec 32 := 1#32
  let v588 : BitVec 32 := Scalar.muli v20 c1_i32_247
  let v589 : BitVec 32 := Scalar.addi c0_i32_248 v588
  v589.toNat
def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c0_i32_256 : BitVec 32 := 0#32
  let c0_i32_257 : BitVec 32 := 0#32
  ![v11.toNat, 0, 0]
def k0_dev15 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c1_i32_261 : BitVec 32 := 1#32
  let v606 : BitVec 32 := Scalar.muli v9 c1_i32_261
  let v607 : BitVec 32 := Scalar.addi c0_i32_262 v606
  v607.toNat
def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let v617 : Index := Scalar.indexCast v11
  let c0_269 : Index := 0#32
  let c0_270 : Index := 0#32
  ![v617.toNat, 0, 0]
def k0_off36 (d0 : Dev nD) : Fin 3 → Nat :=
  let c0_273 : Index := 0#32
  let c0_274 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c256_i32_272 : BitVec 32 := 256#32
  let v622 : BitVec 32 := Scalar.muli v11 c256_i32_272
  let v623 : Index := Scalar.indexCast v622
  ![0, 0, v623.toNat]
def k0_off37 (d0 : Dev nD) : Fin 3 → Nat :=
  let c1_276 : Index := 1#32
  let c0_277 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c256_i32_275 : BitVec 32 := 256#32
  let v626 : BitVec 32 := Scalar.muli v11 c256_i32_275
  let v627 : Index := Scalar.indexCast v626
  ![1, 0, v627.toNat]
def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let v691 : Index := Scalar.indexCast v11
  let c0_296 : Index := 0#32
  let c0_297 : Index := 0#32
  ![v691.toNat, 0, 0]
def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let v704 : Index := Scalar.indexCast v11
  let c0_299 : Index := 0#32
  let c64_300 : Index := 64#32
  ![v704.toNat, 0, 64]
def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let v717 : Index := Scalar.indexCast v11
  let c0_302 : Index := 0#32
  let c128_303 : Index := 128#32
  ![v717.toNat, 0, 128]
def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let v730 : Index := Scalar.indexCast v11
  let c0_305 : Index := 0#32
  let c192_306 : Index := 192#32
  ![v730.toNat, 0, 192]
def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let v743 : Index := Scalar.indexCast v11
  let c128_308 : Index := 128#32
  let c0_309 : Index := 0#32
  ![v743.toNat, 128, 0]
def k0_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let v756 : Index := Scalar.indexCast v11
  let c128_311 : Index := 128#32
  let c64_312 : Index := 64#32
  ![v756.toNat, 128, 64]
def k0_off44 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let v769 : Index := Scalar.indexCast v11
  let c128_314 : Index := 128#32
  let c128_315 : Index := 128#32
  ![v769.toNat, 128, 128]
def k0_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let v782 : Index := Scalar.indexCast v11
  let c128_317 : Index := 128#32
  let c192_318 : Index := 192#32
  ![v782.toNat, 128, 192]
def k0_off46 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let v786 : Index := Scalar.indexCast v11
  let c0_319 : Index := 0#32
  let c0_320 : Index := 0#32
  ![v786.toNat, 0, 0]
def k0_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let v789 : Index := Scalar.indexCast v11
  let c0_321 : Index := 0#32
  let c0_322 : Index := 0#32
  ![v789.toNat, 0, 0]
def k0_off48 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  ![v18.toNat]
def k0_off49 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c0_i32_331 : BitVec 32 := 0#32
  let c0_i32_332 : BitVec 32 := 0#32
  ![v18.toNat, 0, 0]
def k0_dev16 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c1_i32_335 : BitVec 32 := 1#32
  let v805 : BitVec 32 := Scalar.muli v20 c1_i32_335
  let v806 : BitVec 32 := Scalar.addi c0_i32_336 v805
  v806.toNat
def k0_off50 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  ![v24.toNat]
def k0_off51 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let c0_i32_344 : BitVec 32 := 0#32
  let c0_i32_345 : BitVec 32 := 0#32
  ![v24.toNat, 0, 0]
def k0_dev17 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c1_i32_349 : BitVec 32 := 1#32
  let v823 : BitVec 32 := Scalar.muli v9 c1_i32_349
  let v824 : BitVec 32 := Scalar.addi c0_i32_350 v823
  v824.toNat
def k0_off52 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let v834 : Index := Scalar.indexCast v18
  let c0_357 : Index := 0#32
  let c0_358 : Index := 0#32
  ![v834.toNat, 0, 0]
def k0_off53 (d0 : Dev nD) : Fin 3 → Nat :=
  let c0_361 : Index := 0#32
  let c0_362 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c256_i32_360 : BitVec 32 := 256#32
  let v839 : BitVec 32 := Scalar.muli v18 c256_i32_360
  let v840 : Index := Scalar.indexCast v839
  ![0, 0, v840.toNat]
def k0_off54 (d0 : Dev nD) : Fin 3 → Nat :=
  let c1_364 : Index := 1#32
  let c0_365 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c256_i32_363 : BitVec 32 := 256#32
  let v843 : BitVec 32 := Scalar.muli v18 c256_i32_363
  let v844 : Index := Scalar.indexCast v843
  ![1, 0, v844.toNat]
def k0_off55 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let v908 : Index := Scalar.indexCast v18
  let c0_384 : Index := 0#32
  let c0_385 : Index := 0#32
  ![v908.toNat, 0, 0]
def k0_off56 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let v921 : Index := Scalar.indexCast v18
  let c0_387 : Index := 0#32
  let c64_388 : Index := 64#32
  ![v921.toNat, 0, 64]
def k0_off57 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let v934 : Index := Scalar.indexCast v18
  let c0_390 : Index := 0#32
  let c128_391 : Index := 128#32
  ![v934.toNat, 0, 128]
def k0_off58 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let v947 : Index := Scalar.indexCast v18
  let c0_393 : Index := 0#32
  let c192_394 : Index := 192#32
  ![v947.toNat, 0, 192]
def k0_off59 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let v960 : Index := Scalar.indexCast v18
  let c128_396 : Index := 128#32
  let c0_397 : Index := 0#32
  ![v960.toNat, 128, 0]
def k0_off60 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let v973 : Index := Scalar.indexCast v18
  let c128_399 : Index := 128#32
  let c64_400 : Index := 64#32
  ![v973.toNat, 128, 64]
def k0_off61 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let v986 : Index := Scalar.indexCast v18
  let c128_402 : Index := 128#32
  let c128_403 : Index := 128#32
  ![v986.toNat, 128, 128]
def k0_off62 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let v999 : Index := Scalar.indexCast v18
  let c128_405 : Index := 128#32
  let c192_406 : Index := 192#32
  ![v999.toNat, 128, 192]
def k0_off63 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c0_i32_410 : BitVec 32 := 0#32
  let c0_i32_411 : BitVec 32 := 0#32
  ![v20.toNat, 0, 0]
def k0_off64 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let v1012 : Index := Scalar.indexCast v20
  let c0_416 : Index := 0#32
  let c0_417 : Index := 0#32
  ![v1012.toNat, 0, 0]
def k0_off65 (d0 : Dev nD) : Fin 3 → Nat :=
  let c0_420 : Index := 0#32
  let c0_421 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c256_i32_419 : BitVec 32 := 256#32
  let v1017 : BitVec 32 := Scalar.muli v20 c256_i32_419
  let v1018 : Index := Scalar.indexCast v1017
  ![0, 0, v1018.toNat]
def k0_off66 (d0 : Dev nD) : Fin 3 → Nat :=
  let c1_423 : Index := 1#32
  let c0_424 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let c256_i32_422 : BitVec 32 := 256#32
  let v1021 : BitVec 32 := Scalar.muli v20 c256_i32_422
  let v1022 : Index := Scalar.indexCast v1021
  ![1, 0, v1022.toNat]
def k0_off67 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let v1086 : Index := Scalar.indexCast v20
  let c0_443 : Index := 0#32
  let c0_444 : Index := 0#32
  ![v1086.toNat, 0, 0]
def k0_off68 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let v1099 : Index := Scalar.indexCast v20
  let c0_446 : Index := 0#32
  let c64_447 : Index := 64#32
  ![v1099.toNat, 0, 64]
def k0_off69 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let v1112 : Index := Scalar.indexCast v20
  let c0_449 : Index := 0#32
  let c128_450 : Index := 128#32
  ![v1112.toNat, 0, 128]
def k0_off70 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let v1125 : Index := Scalar.indexCast v20
  let c0_452 : Index := 0#32
  let c192_453 : Index := 192#32
  ![v1125.toNat, 0, 192]
def k0_off71 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let v1138 : Index := Scalar.indexCast v20
  let c128_455 : Index := 128#32
  let c0_456 : Index := 0#32
  ![v1138.toNat, 128, 0]
def k0_off72 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let v1151 : Index := Scalar.indexCast v20
  let c128_458 : Index := 128#32
  let c64_459 : Index := 64#32
  ![v1151.toNat, 128, 64]
def k0_off73 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let v1164 : Index := Scalar.indexCast v20
  let c128_461 : Index := 128#32
  let c128_462 : Index := 128#32
  ![v1164.toNat, 128, 128]
def k0_off74 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let v1177 : Index := Scalar.indexCast v20
  let c128_464 : Index := 128#32
  let c192_465 : Index := 192#32
  ![v1177.toNat, 128, 192]
def k0_off75 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let v1181 : Index := Scalar.indexCast v20
  let c0_466 : Index := 0#32
  let c0_467 : Index := 0#32
  ![v1181.toNat, 0, 0]
def k0_off76 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let v20 : BitVec 32 := Scalar.remsi v19 c8_i32_8
  let v1184 : Index := Scalar.indexCast v20
  let c0_468 : Index := 0#32
  let c0_469 : Index := 0#32
  ![v1184.toNat, 0, 0]
def k0_off77 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  ![v22.toNat]
def k0_off78 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let c0_i32_478 : BitVec 32 := 0#32
  let c0_i32_479 : BitVec 32 := 0#32
  ![v22.toNat, 0, 0]
def k0_off79 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let v1201 : Index := Scalar.indexCast v22
  let c0_484 : Index := 0#32
  let c0_485 : Index := 0#32
  ![v1201.toNat, 0, 0]
def k0_off80 (d0 : Dev nD) : Fin 3 → Nat :=
  let c0_488 : Index := 0#32
  let c0_489 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let c256_i32_487 : BitVec 32 := 256#32
  let v1206 : BitVec 32 := Scalar.muli v22 c256_i32_487
  let v1207 : Index := Scalar.indexCast v1206
  ![0, 0, v1207.toNat]
def k0_off81 (d0 : Dev nD) : Fin 3 → Nat :=
  let c1_491 : Index := 1#32
  let c0_492 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let c256_i32_490 : BitVec 32 := 256#32
  let v1210 : BitVec 32 := Scalar.muli v22 c256_i32_490
  let v1211 : Index := Scalar.indexCast v1210
  ![1, 0, v1211.toNat]
def k0_off82 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let v1275 : Index := Scalar.indexCast v22
  let c0_511 : Index := 0#32
  let c0_512 : Index := 0#32
  ![v1275.toNat, 0, 0]
def k0_off83 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let v1288 : Index := Scalar.indexCast v22
  let c0_514 : Index := 0#32
  let c64_515 : Index := 64#32
  ![v1288.toNat, 0, 64]
def k0_off84 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let v1301 : Index := Scalar.indexCast v22
  let c0_517 : Index := 0#32
  let c128_518 : Index := 128#32
  ![v1301.toNat, 0, 128]
def k0_off85 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let v1314 : Index := Scalar.indexCast v22
  let c0_520 : Index := 0#32
  let c192_521 : Index := 192#32
  ![v1314.toNat, 0, 192]
def k0_off86 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let v1327 : Index := Scalar.indexCast v22
  let c128_523 : Index := 128#32
  let c0_524 : Index := 0#32
  ![v1327.toNat, 128, 0]
def k0_off87 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let v1340 : Index := Scalar.indexCast v22
  let c128_526 : Index := 128#32
  let c64_527 : Index := 64#32
  ![v1340.toNat, 128, 64]
def k0_off88 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let v1353 : Index := Scalar.indexCast v22
  let c128_529 : Index := 128#32
  let c128_530 : Index := 128#32
  ![v1353.toNat, 128, 128]
def k0_off89 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let v1366 : Index := Scalar.indexCast v22
  let c128_532 : Index := 128#32
  let c192_533 : Index := 192#32
  ![v1366.toNat, 128, 192]
def k0_off90 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let c0_i32_537 : BitVec 32 := 0#32
  let c0_i32_538 : BitVec 32 := 0#32
  ![v24.toNat, 0, 0]
def k0_off91 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let v1379 : Index := Scalar.indexCast v24
  let c0_543 : Index := 0#32
  let c0_544 : Index := 0#32
  ![v1379.toNat, 0, 0]
def k0_off92 (d0 : Dev nD) : Fin 3 → Nat :=
  let c0_547 : Index := 0#32
  let c0_548 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let c256_i32_546 : BitVec 32 := 256#32
  let v1384 : BitVec 32 := Scalar.muli v24 c256_i32_546
  let v1385 : Index := Scalar.indexCast v1384
  ![0, 0, v1385.toNat]
def k0_off93 (d0 : Dev nD) : Fin 3 → Nat :=
  let c1_550 : Index := 1#32
  let c0_551 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let c256_i32_549 : BitVec 32 := 256#32
  let v1388 : BitVec 32 := Scalar.muli v24 c256_i32_549
  let v1389 : Index := Scalar.indexCast v1388
  ![1, 0, v1389.toNat]
def k0_off94 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let v1453 : Index := Scalar.indexCast v24
  let c0_570 : Index := 0#32
  let c0_571 : Index := 0#32
  ![v1453.toNat, 0, 0]
def k0_off95 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let v1466 : Index := Scalar.indexCast v24
  let c0_573 : Index := 0#32
  let c64_574 : Index := 64#32
  ![v1466.toNat, 0, 64]
def k0_off96 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let v1479 : Index := Scalar.indexCast v24
  let c0_576 : Index := 0#32
  let c128_577 : Index := 128#32
  ![v1479.toNat, 0, 128]
def k0_off97 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let v1492 : Index := Scalar.indexCast v24
  let c0_579 : Index := 0#32
  let c192_580 : Index := 192#32
  ![v1492.toNat, 0, 192]
def k0_off98 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let v1505 : Index := Scalar.indexCast v24
  let c128_582 : Index := 128#32
  let c0_583 : Index := 0#32
  ![v1505.toNat, 128, 0]
def k0_off99 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let v1518 : Index := Scalar.indexCast v24
  let c128_585 : Index := 128#32
  let c64_586 : Index := 64#32
  ![v1518.toNat, 128, 64]
def k0_off100 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let v1531 : Index := Scalar.indexCast v24
  let c128_588 : Index := 128#32
  let c128_589 : Index := 128#32
  ![v1531.toNat, 128, 128]
def k0_off101 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let v1544 : Index := Scalar.indexCast v24
  let c128_591 : Index := 128#32
  let c192_592 : Index := 192#32
  ![v1544.toNat, 128, 192]
def k0_off102 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let v1548 : Index := Scalar.indexCast v24
  let c0_593 : Index := 0#32
  let c0_594 : Index := 0#32
  ![v1548.toNat, 0, 0]
def k0_off103 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v11 : BitVec 32 := Scalar.addi v4 v10
  let c4_i32_11 : BitVec 32 := 4#32
  let v23 : BitVec 32 := Scalar.addi v11 c4_i32_11
  let c8_i32_12 : BitVec 32 := 8#32
  let v24 : BitVec 32 := Scalar.remsi v23 c8_i32_12
  let v1551 : Index := Scalar.indexCast v24
  let c0_595 : Index := 0#32
  let c0_596 : Index := 0#32
  ![v1551.toNat, 0, 0]
def k0_off104 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  ![v26.toNat]
def k0_off105 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let c0_i32_605 : BitVec 32 := 0#32
  let c0_i32_606 : BitVec 32 := 0#32
  ![v26.toNat, 0, 0]
def k0_off106 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let v1568 : Index := Scalar.indexCast v26
  let c0_611 : Index := 0#32
  let c0_612 : Index := 0#32
  ![v1568.toNat, 0, 0]
def k0_off107 (d0 : Dev nD) : Fin 3 → Nat :=
  let c0_615 : Index := 0#32
  let c0_616 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let c256_i32_614 : BitVec 32 := 256#32
  let v1573 : BitVec 32 := Scalar.muli v26 c256_i32_614
  let v1574 : Index := Scalar.indexCast v1573
  ![0, 0, v1574.toNat]
def k0_off108 (d0 : Dev nD) : Fin 3 → Nat :=
  let c1_618 : Index := 1#32
  let c0_619 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let c256_i32_617 : BitVec 32 := 256#32
  let v1577 : BitVec 32 := Scalar.muli v26 c256_i32_617
  let v1578 : Index := Scalar.indexCast v1577
  ![1, 0, v1578.toNat]
def k0_off109 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let v1642 : Index := Scalar.indexCast v26
  let c0_638 : Index := 0#32
  let c0_639 : Index := 0#32
  ![v1642.toNat, 0, 0]
def k0_off110 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let v1655 : Index := Scalar.indexCast v26
  let c0_641 : Index := 0#32
  let c64_642 : Index := 64#32
  ![v1655.toNat, 0, 64]
def k0_off111 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let v1668 : Index := Scalar.indexCast v26
  let c0_644 : Index := 0#32
  let c128_645 : Index := 128#32
  ![v1668.toNat, 0, 128]
def k0_off112 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let v1681 : Index := Scalar.indexCast v26
  let c0_647 : Index := 0#32
  let c192_648 : Index := 192#32
  ![v1681.toNat, 0, 192]
def k0_off113 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let v1694 : Index := Scalar.indexCast v26
  let c128_650 : Index := 128#32
  let c0_651 : Index := 0#32
  ![v1694.toNat, 128, 0]
def k0_off114 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let v1707 : Index := Scalar.indexCast v26
  let c128_653 : Index := 128#32
  let c64_654 : Index := 64#32
  ![v1707.toNat, 128, 64]
def k0_off115 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let v1720 : Index := Scalar.indexCast v26
  let c128_656 : Index := 128#32
  let c128_657 : Index := 128#32
  ![v1720.toNat, 128, 128]
def k0_off116 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let v1733 : Index := Scalar.indexCast v26
  let c128_659 : Index := 128#32
  let c192_660 : Index := 192#32
  ![v1733.toNat, 128, 192]
def k0_off117 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c0_i32_664 : BitVec 32 := 0#32
  let c0_i32_665 : BitVec 32 := 0#32
  ![v9.toNat, 0, 0]
def k0_off118 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let v1745 : Index := Scalar.indexCast v9
  let c0_668 : Index := 0#32
  let c0_669 : Index := 0#32
  ![v1745.toNat, 0, 0]
def k0_off119 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let v1748 : Index := Scalar.indexCast v9
  let c0_670 : Index := 0#32
  let c0_671 : Index := 0#32
  ![v1748.toNat, 0, 0]
def k0_off120 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let c0_i32_680 : BitVec 32 := 0#32
  let c0_i32_681 : BitVec 32 := 0#32
  ![v22.toNat, 0, 0]
def k0_off121 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let v1764 : Index := Scalar.indexCast v22
  let c0_684 : Index := 0#32
  let c0_685 : Index := 0#32
  ![v1764.toNat, 0, 0]
def k0_off122 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v9 : BitVec 32 := Scalar.addi v4 v8
  let c4_i32_9 : BitVec 32 := 4#32
  let v21 : BitVec 32 := Scalar.addi v9 c4_i32_9
  let c8_i32_10 : BitVec 32 := 8#32
  let v22 : BitVec 32 := Scalar.remsi v21 c8_i32_10
  let v1767 : Index := Scalar.indexCast v22
  let c0_686 : Index := 0#32
  let c0_687 : Index := 0#32
  ![v1767.toNat, 0, 0]
def k0_off123 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c0_i32_696 : BitVec 32 := 0#32
  let c0_i32_697 : BitVec 32 := 0#32
  ![v18.toNat, 0, 0]
def k0_off124 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let v1783 : Index := Scalar.indexCast v18
  let c0_700 : Index := 0#32
  let c0_701 : Index := 0#32
  ![v1783.toNat, 0, 0]
def k0_off125 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let v1786 : Index := Scalar.indexCast v18
  let c0_702 : Index := 0#32
  let c0_703 : Index := 0#32
  ![v1786.toNat, 0, 0]
def k0_off126 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let c0_i32_712 : BitVec 32 := 0#32
  let c0_i32_713 : BitVec 32 := 0#32
  ![v26.toNat, 0, 0]
def k0_off127 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let v1802 : Index := Scalar.indexCast v26
  let c0_716 : Index := 0#32
  let c0_717 : Index := 0#32
  ![v1802.toNat, 0, 0]
def k0_off128 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_2 : BitVec 32 := 3#32
  let v12 : BitVec 32 := Scalar.subi c3_i32_2 v3
  let c1_i32_3 : BitVec 32 := 1#32
  let v13 : BitVec 32 := Scalar.addi v12 c1_i32_3
  let c2_i32_6 : BitVec 32 := 2#32
  let c3_i32_4 : BitVec 32 := 3#32
  let v14 : BitVec 32 := Scalar.subi c3_i32_4 v3
  let c2_i32_5 : BitVec 32 := 2#32
  let v15 : BitVec 32 := Scalar.remsi v14 c2_i32_5
  let v16 : BitVec 32 := Scalar.muli c2_i32_6 v15
  let v17 : BitVec 32 := Scalar.subi v13 v16
  let v18 : BitVec 32 := Scalar.addi v4 v17
  let c4_i32_13 : BitVec 32 := 4#32
  let v25 : BitVec 32 := Scalar.addi v18 c4_i32_13
  let c8_i32_14 : BitVec 32 := 8#32
  let v26 : BitVec 32 := Scalar.remsi v25 c8_i32_14
  let v1805 : Index := Scalar.indexCast v26
  let c0_718 : Index := 0#32
  let c0_719 : Index := 0#32
  ![v1805.toNat, 0, 0]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x128x512 : Shape := ⟨3, ![16, 128, 512]⟩
abbrev S512x2048 : Shape := ⟨2, ![512, 2048]⟩
abbrev S16x128x32x64 : Shape := ⟨4, ![16, 128, 32, 64]⟩
abbrev S2048x512 : Shape := ⟨2, ![2048, 512]⟩
abbrev S16x128x2048 : Shape := ⟨3, ![16, 128, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S16x32x128x128 : Shape := ⟨4, ![16, 32, 128, 128]⟩
abbrev S1x1x128x128 : Shape := ⟨4, ![1, 1, 128, 128]⟩
abbrev S16x32x128 : Shape := ⟨3, ![16, 32, 128]⟩
abbrev S16x32x128x1 : Shape := ⟨4, ![16, 32, 128, 1]⟩
abbrev S1x1x128x1 : Shape := ⟨4, ![1, 1, 128, 1]⟩
abbrev S16x32x64x128 : Shape := ⟨4, ![16, 32, 64, 128]⟩

abbrev nBuf : Space → Nat
  | .hbm => 123
  | .vmem => 0
  | .smem => 0
  | _ => 0

abbrev bufTy : (tb : Table) → Fin (tcTables nBuf tb) → BufTy
  | .hbm, ⟨0, _⟩ => ⟨S16x128x512, .f32⟩
  | .hbm, ⟨1, _⟩ => ⟨S512x2048, .f32⟩
  | .hbm, ⟨2, _⟩ => ⟨S16x128x32x64, .f32⟩
  | .hbm, ⟨3, _⟩ => ⟨S16x128x32x64, .f32⟩
  | .hbm, ⟨4, _⟩ => ⟨S2048x512, .f32⟩
  | .hbm, ⟨5, _⟩ => ⟨S16x128x2048, .f32⟩
  | .hbm, ⟨6, _⟩ => ⟨S16x128x32x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S128x128, .i1⟩
  | .hbm, ⟨54, _⟩ => ⟨S128x128, .i1⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i1⟩
  | .hbm, ⟨69, _⟩ => ⟨S_, .i32⟩
  | .hbm, ⟨70, _⟩ => ⟨S128x128, .i32⟩
  | .hbm, ⟨71, _⟩ => ⟨S128x128, .i1⟩
  | .hbm, ⟨72, _⟩ => ⟨S_, .i32⟩
  | .hbm, ⟨73, _⟩ => ⟨S_, .i1⟩
  | .hbm, ⟨74, _⟩ => ⟨S128x128, .i1⟩
  | .hbm, ⟨75, _⟩ => ⟨S128x128, .i1⟩
  | .hbm, ⟨76, _⟩ => ⟨S128x128, .i1⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i1⟩
  | .hbm, ⟨83, _⟩ => ⟨S128x128, .i1⟩
  | .hbm, ⟨84, _⟩ => ⟨S16x32x128x128, .f32⟩
  | .hbm, ⟨85, _⟩ => ⟨S_, .f32⟩
  | .hbm, ⟨86, _⟩ => ⟨S16x32x128x128, .f32⟩
  | .hbm, ⟨87, _⟩ => ⟨S16x32x128x128, .f32⟩
  | .hbm, ⟨88, _⟩ => ⟨S1x1x128x128, .i1⟩
  | .hbm, ⟨89, _⟩ => ⟨S_, .f32⟩
  | .hbm, ⟨90, _⟩ => ⟨S_, .f32⟩
  | .hbm, ⟨91, _⟩ => ⟨S16x32x128x128, .i1⟩
  | .hbm, ⟨92, _⟩ => ⟨S16x32x128x128, .f32⟩
  | .hbm, ⟨93, _⟩ => ⟨S16x32x128x128, .f32⟩
  | .hbm, ⟨94, _⟩ => ⟨S_, .f32⟩
  | .hbm, ⟨95, _⟩ => ⟨S16x32x128, .f32⟩
  | .hbm, ⟨96, _⟩ => ⟨S16x32x128x1, .f32⟩
  | .hbm, ⟨97, _⟩ => ⟨S16x32x128x128, .f32⟩
  | .hbm, ⟨98, _⟩ => ⟨S16x32x128x128, .f32⟩
  | .hbm, ⟨99, _⟩ => ⟨S16x32x128x128, .f32⟩
  | .hbm, ⟨100, _⟩ => ⟨S_, .i1⟩
  | .hbm, ⟨101, _⟩ => ⟨S128, .i1⟩
  | .hbm, ⟨102, _⟩ => ⟨S1x1x128x1, .i1⟩
  | .hbm, ⟨103, _⟩ => ⟨S_, .f32⟩
  | .hbm, ⟨104, _⟩ => ⟨S16x32x128, .f32⟩
  | .hbm, ⟨105, _⟩ => ⟨S16x32x128x1, .f32⟩
  | .hbm, ⟨106, _⟩ => ⟨S_, .f32⟩
  | .hbm, ⟨107, _⟩ => ⟨S_, .f32⟩
  | .hbm, ⟨108, _⟩ => ⟨S16x32x128x1, .i1⟩
  | .hbm, ⟨109, _⟩ => ⟨S16x32x128x1, .f32⟩
  | .hbm, ⟨110, _⟩ => ⟨S16x32x128x1, .f32⟩
  | .hbm, ⟨111, _⟩ => ⟨S16x32x128x128, .f32⟩
  | .hbm, ⟨112, _⟩ => ⟨S16x32x128x128, .f32⟩
  | .hbm, ⟨113, _⟩ => ⟨S1x1x128x1, .i1⟩
  | .hbm, ⟨114, _⟩ => ⟨S_, .f32⟩
  | .hbm, ⟨115, _⟩ => ⟨S_, .f32⟩
  | .hbm, ⟨116, _⟩ => ⟨S16x32x128x128, .i1⟩
  | .hbm, ⟨117, _⟩ => ⟨S16x32x128x128, .f32⟩
  | .hbm, ⟨118, _⟩ => ⟨S16x32x128x128, .f32⟩
  | .hbm, ⟨119, _⟩ => ⟨S16x32x64x128, .f32⟩
  | .hbm, ⟨120, _⟩ => ⟨S16x128x32x64, .f32⟩
  | .hbm, ⟨121, _⟩ => ⟨S16x128x2048, .f32⟩
  | .hbm, ⟨122, _⟩ => ⟨S16x128x512, .f32⟩
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Values.lean ====
/- The values the kernel computes, as functions of what it loads: the projection, the scores, the masked weights, their
   reciprocal sums, one tile of the attention output, and one contribution to the result. -/
module

public import proofs.«01_k».proof.Proof.Gen.KernelIdeal.Skeleton

@[expose] public section

noncomputable section

namespace Cert.KernelIdeal.Own

open Idealize.ShloMosaic Idealize.SL.Sem Cert.KernelIdeal Cert.KernelIdeal.Gen

variable {F : FTy → Type} [FloatOps F]

/-- The projection of the activations by one block of query weights. -/
def qVal (x : Vec F S256x512 .bf16) (w : Vec F S1x512x256 .bf16) : FVec F S256x256 .bf16 :=
  truncf .bf16 (matmul dot_S256x512_S512x256_S256x256_1_0_0_1_n_n none x
    (shapeCast S512x256 w shapeCasts_S1x512x256_S512x256) (constant S256x256 .f32 0x00000000#32)) bitsLt_bf16_f32

/-- One batch's block of keys or values as a matrix. -/
def flat (k : Vec F S1x128x256 .bf16) : FVec F S128x256 .bf16 := shapeCast S128x256 k shapeCasts_S1x128x256_S128x256

theorem qslices (j : Fin 8) : S256x256.Slices ![128 * (j.val / 4), 64 * (j.val % 4)] S128x64 := by
  revert j; decide

theorem kslices (j : Fin 8) : S128x256.Slices ![0, 64 * (j.val % 4)] S128x64 := by
  revert j; decide

theorem eslices (j : Fin 8) : S8x128x128.Slices ![j.val, 0, 0] S1x128x128 := by
  revert j; decide

theorem rslices (j : Fin 8) : S8x128x1.Slices ![j.val, 0, 0] S1x128x1 := by
  revert j; decide

/-- The scores of pair `j` (batch `j / 4`, head `j % 4`). -/
def score (q : FVec F S256x256 .bf16) (k : FVec F S128x256 .bf16) (j : Fin 8) : FVec F S128x128 .f32 :=
  matmul dot_S128x64_S128x64_S128x128_1_1_0_0_n_n none
    (extractStridedSlice S128x64 ![128 * (j.val / 4), 64 * (j.val % 4)] q (qslices j))
    (extractStridedSlice S128x64 ![0, 64 * (j.val % 4)] k (kslices j)) (constant S128x128 .f32 0x00000000#32)

/-- The scores as a stack layer. -/
def layer (q : FVec F S256x256 .bf16) (k : FVec F S128x256 .bf16) (j : Fin 8) : FVec F S1x128x128 .f32 :=
  shapeCast S1x128x128 (score q k j) shapeCasts_S128x128_S1x128x128

/-- All eight pairs' scores, stacked. -/
def scores (q : FVec F S256x256 .bf16) (k0 k1 : FVec F S128x256 .bf16) : FVec F S8x128x128 .f32 :=
  concatenate S8x128x128 0 [⟨S1x128x128, layer q k0 0⟩, ⟨S1x128x128, layer q k0 1⟩, ⟨S1x128x128, layer q k0 2⟩,
    ⟨S1x128x128, layer q k0 3⟩, ⟨S1x128x128, layer q k1 4⟩, ⟨S1x128x128, layer q k1 5⟩, ⟨S1x128x128, layer q k1 6⟩,
    ⟨S1x128x128, layer q k1 7⟩]
    concatenates_S1x128x128_S1x128x128_S1x128x128_S1x128x128_S1x128x128_S1x128x128_S1x128x128_S1x128x128_S8x128x128_d0

/-- The masked exponentials. -/
def weights (mask : FVec F S128x128 .f32) (s : FVec F S8x128x128 .f32) : FVec F S8x128x128 .f32 :=
  mulf (exp (mulf s (broadcast S8x128x128 (Scalar.ofBits .f32 0x3E000000#32 : F .f32))))
    (broadcastTo S8x128x128 (shapeCast S1x128x128 mask shapeCasts_S128x128_S1x128x128) broadcasts_S1x128x128_S8x128x128)

/-- The reciprocal of each row's sum. -/
def recip (e : FVec F S8x128x128 .f32) : FVec F S8x128x1 .f32 :=
  divf (broadcast S8x128x1 (Scalar.ofBits .f32 0x3F800000#32 : F .f32))
    (shapeCast S8x128x1 (multiReduction .add [2] S8x128 e 0x00000000#32 reduces_S8x128x128_S8x128 (.inl rfl) rfl)
      shapeCasts_S8x128_S8x128x1)

/-- Tile `j` of the attention output. -/
def tile (v : FVec F S128x256 .bf16) (eb : FVec F S8x128x128 .bf16) (r : FVec F S8x128x1 .f32) (j : Fin 8) :
    FVec F S1x128x64 .bf16 :=
  shapeCast S1x128x64 (truncf .bf16 (mulf
    (matmul dot_S128x128_S128x64_S128x64_1_0_0_1_n_n none
      (shapeCast S128x128 (extractStridedSlice S1x128x128 ![j.val, 0, 0] eb (eslices j)) shapeCasts_S1x128x128_S128x128)
      (extractStridedSlice S128x64 ![0, 64 * (j.val % 4)] v (kslices j)) (constant S128x64 .f32 0x00000000#32))
    (broadcastTo S128x64 (shapeCast S128x1 (extractStridedSlice S1x128x1 ![j.val, 0, 0] r (rslices j))
      shapeCasts_S1x128x1_S128x1) broadcasts_S128x1_S128x64)) bitsLt_bf16_f32) shapeCasts_S128x64_S1x128x64

/-- Tile `j` from everything the kernel loads for one block of heads. -/
def attnTile (mask : FVec F S128x128 .f32) (x : Vec F S256x512 .bf16) (w : Vec F S1x512x256 .bf16)
    (k0 k1 v0 v1 : Vec F S1x128x256 .bf16) (j : Fin 8) : FVec F S1x128x64 .bf16 :=
  tile (if j.val < 4 then flat v0 else flat v1)
    (truncf .bf16 (weights mask (scores (qVal x w) (flat k0) (flat k1))) bitsLt_bf16_f32)
    (recip (weights mask (scores (qVal x w) (flat k0) (flat k1)))) j

/-- The mask of the block-sparse pattern, as the kernel computes it. -/
def maskVal : FVec F S128x128 .f32 :=
  k0_pay11 (k0_pay8 (iota .tc S128x128 32 [0] iota_S128x128_d0_w32) 64#32 k0_pay4 k0_pay5 (Scalar.cmpi .sgt 64#32 0#32))
    (k0_pay9 (iota .tc S128x128 32 [0] iota_S128x128_d0_w32) 64#32 k0_pay4 k0_pay5 (Scalar.cmpi .sgt 64#32 0#32)) k0_pay10

/-- The product of one block of the attention output with one block of output weights. -/
def outProd (c : Vec F S1x256x256 .bf16) (w : Vec F S1x256x512 .bf16) : FVec F S256x512 .f32 :=
  matmul dot_S256x256_S256x512_S256x512_1_0_0_1_n_n none (shapeCast S256x256 c shapeCasts_S1x256x256_S256x256)
    (shapeCast S256x512 w shapeCasts_S1x256x512_S256x512) (constant S256x512 .f32 0x00000000#32)

/-- The first contribution to the result. -/
def outFirst (c : Vec F S1x256x256 .bf16) (w : Vec F S1x256x512 .bf16) : FVec F S256x512 .f32 :=
  outProd c w

/-- The result with one more contribution. -/
def outNext (c : Vec F S1x256x256 .bf16) (w : Vec F S1x256x512 .bf16) (o : Vec F S256x512 .f32) : FVec F S256x512 .f32 :=
  addf (shapeCast S256x512 o shapeCasts_S256x512_S256x512) (outProd c w)

end Cert.KernelIdeal.Own

end
-- ==== Proof.Prog.lean ====
/- The kernel's body as a short program of named pieces: the barrier, the staging of this device's blocks, the sends and
   waits of the two all-gathers, the attention of one block of heads and the contribution of one block to the result. The
   printed body is this program, by unfolding. -/
module

public import proofs.«01_k».proof.Proof.Values
public import Idealize.ShloMosaic.Lib.Pipeline.Regions

@[expose] public section

noncomputable section

namespace Cert.KernelIdeal.Own

open Idealize.ShloMosaic Idealize.ShloMosaic.TcCoe Idealize.SL.Sem Cert.KernelIdeal Cert.KernelIdeal.Gen

variable {F : FTy → Type} [FloatOps F]

/-- Programs of the kernel's body. -/
abbrev P (F : FTy → Type) (α : Type) : Type 1 := Prog (TpuEff nD τ sig (Elt F) Λ₀ .tc) α

/-! ## The buffers -/

abbrev mX : Memref sig .tc .vmem S256x512 .f32 := Memref.whole cc0_stg0_0
abbrev mWq : Memref sig .tc .vmem S512x256 .f32 := Memref.whole cc0_stg1_0
abbrev mK : Memref sig .tc .vmem S2x128x2048 .bf16 := Memref.whole cc0_stg2_0
abbrev mV : Memref sig .tc .vmem S2x128x2048 .bf16 := Memref.whole cc0_stg3_0
abbrev mWo : Memref sig .tc .vmem S256x512 .f32 := Memref.whole cc0_stg4_0
abbrev mOut : Memref sig .tc .vmem S256x512 .f32 := Memref.whole cc0_stg5_0
abbrev mXb : Memref sig .tc .vmem S256x512 .bf16 := Memref.whole cc0_scratch0
abbrev mWqAll : Memref sig .tc .vmem S8x512x256 .bf16 := Memref.whole cc0_scratch1
abbrev mWoAll : Memref sig .tc .vmem S8x256x512 .bf16 := Memref.whole cc0_scratch2
abbrev mCtx : Memref sig .tc .vmem S8x256x256 .bf16 := Memref.whole cc0_scratch3

/-- One of the two all-gathers: its buffer of eight slots, one slot's shape, and its semaphores. -/
structure Lane where
  big : Shape
  sz : Fin big.rank → ℕ
  one : Shape
  sq : (⟨big.rank, sz⟩ : Shape).Squeezes one
  m : Memref sig .tc .vmem big .bf16
  whole : m.IsWhole
  sendSems : DmaSems sig S7
  recvSems : DmaSems sig S8

def wqLane : Lane :=
  ⟨S8x512x256, ![1, 512, 256], S512x256, squeezes_S1x512x256_S512x256, mWqAll, Memref.isWhole_whole _, cc0_scratch4, cc0_scratch5⟩
def woLane : Lane :=
  ⟨S8x256x512, ![1, 256, 512], S256x512, squeezes_S1x256x512_S256x512, mWoAll, Memref.isWhole_whole _, cc0_scratch6, cc0_scratch7⟩

/-- Where a load reads: the corner, in bounds. -/
@[ext] structure LoadOff (big : Shape) (sz : Fin big.rank → ℕ) where
  off : Fin big.rank → ℕ
  inb : ∀ a, off a + sz a ≤ big.size a

/-- Where a store writes: the corner, in bounds, rows packed. -/
@[ext] structure StoreOff (big : Shape) (sz : Fin big.rank → ℕ) where
  off : Fin big.rank → ℕ
  inb : ∀ a, off a + sz a ≤ big.size a
  packed : (Rect.unit (s := big) off sz inb).PackedRows (EltTy.packing .bf16)

/-- A slot a transfer moves: the corner, in bounds, whole words. -/
@[ext] structure SlotOff (L : Lane) where
  off : Fin L.big.rank → ℕ
  inb : ∀ a, off a + L.sz a ≤ L.big.size a
  words : (Rect.unit (s := L.big) off L.sz inb).WholeWords (EltTy.packing .bf16)

/-- Which receive semaphore. -/
@[ext] structure SemOff where
  off : Fin 1 → ℕ
  inb : ∀ a, off a + S1.size a ≤ S8.size a

/-- The slot as a transfer sees it. -/
def Lane.slot (L : Lane) (o : SlotOff L) : Memref sig .tc .vmem L.one .bf16 :=
  (L.m.slice (Rect.unit (s := L.big) o.off L.sz o.inb) (fun _ => rfl)).squeeze L.one L.sq

theorem Lane.slot_exact (L : Lane) (o : SlotOff L) : (L.slot o).view.WordExact :=
  (L.whole.wordExact_slice rfl _ o.words).reshape _ _

/-- The receive semaphore of a slot. -/
def Lane.recvSem (L : Lane) (o : SemOff) : DmaSem sig :=
  ((L.recvSems.slice (Rect.unit (s := S8) o.off S1.size o.inb)).squeeze S_ squeezes_S1_S_).sem

theorem sendInb (k : Fin 7) : ∀ a, (![k.val] : Fin 1 → ℕ) a + S1.size a ≤ S7.size a := by
  revert k; decide

/-- The send semaphore of transfer `k`. -/
def Lane.sendSem (L : Lane) (k : Fin 7) : DmaSem sig :=
  ((L.sendSems.slice (Rect.unit (s := S7) ![k.val] S1.size (sendInb k))).squeeze S_ squeezes_S1_S_).sem

/-! ## The printed offsets -/

/-- The printed offsets of the query block of origin `r`. -/
def qOff (d : Dev nD) : Fin 8 → LoadOff S8x512x256 ![1, 512, 256] :=
  ![⟨k0_off1 d, k0_off1_inb d⟩,
    ⟨k0_off21 d, k0_off21_inb d⟩,
    ⟨k0_off52 d, k0_off52_inb d⟩,
    ⟨k0_off35 d, k0_off35_inb d⟩,
    ⟨k0_off64 d, k0_off64_inb d⟩,
    ⟨k0_off79 d, k0_off79_inb d⟩,
    ⟨k0_off106 d, k0_off106_inb d⟩,
    ⟨k0_off91 d, k0_off91_inb d⟩]

/-- The printed offsets of batch 0's keys and values of origin `r`. -/
def kOff0 (d : Dev nD) : Fin 8 → LoadOff S2x128x2048 ![1, 128, 256] :=
  ![⟨k0_off6 d, k0_off6_inb d⟩,
    ⟨k0_off22 d, k0_off22_inb d⟩,
    ⟨k0_off53 d, k0_off53_inb d⟩,
    ⟨k0_off36 d, k0_off36_inb d⟩,
    ⟨k0_off65 d, k0_off65_inb d⟩,
    ⟨k0_off80 d, k0_off80_inb d⟩,
    ⟨k0_off107 d, k0_off107_inb d⟩,
    ⟨k0_off92 d, k0_off92_inb d⟩]

/-- The printed offsets of batch 1's keys and values of origin `r`. -/
def kOff1 (d : Dev nD) : Fin 8 → LoadOff S2x128x2048 ![1, 128, 256] :=
  ![⟨k0_off7 d, k0_off7_inb d⟩,
    ⟨k0_off23 d, k0_off23_inb d⟩,
    ⟨k0_off54 d, k0_off54_inb d⟩,
    ⟨k0_off37 d, k0_off37_inb d⟩,
    ⟨k0_off66 d, k0_off66_inb d⟩,
    ⟨k0_off81 d, k0_off81_inb d⟩,
    ⟨k0_off108 d, k0_off108_inb d⟩,
    ⟨k0_off93 d, k0_off93_inb d⟩]

/-- The printed offsets of the whole output block of origin `r`. -/
def cOff (d : Dev nD) : Fin 8 → LoadOff S8x256x256 ![1, 256, 256] :=
  ![⟨k0_off16 d, k0_off16_inb d⟩,
    ⟨k0_off118 d, k0_off118_inb d⟩,
    ⟨k0_off124 d, k0_off124_inb d⟩,
    ⟨k0_off46 d, k0_off46_inb d⟩,
    ⟨k0_off75 d, k0_off75_inb d⟩,
    ⟨k0_off121 d, k0_off121_inb d⟩,
    ⟨k0_off127 d, k0_off127_inb d⟩,
    ⟨k0_off102 d, k0_off102_inb d⟩]

/-- The printed offsets of the output weights of origin `r`. -/
def oOff (d : Dev nD) : Fin 8 → LoadOff S8x256x512 ![1, 256, 512] :=
  ![⟨k0_off2 d, k0_off2_inb d⟩,
    ⟨k0_off119 d, k0_off119_inb d⟩,
    ⟨k0_off125 d, k0_off125_inb d⟩,
    ⟨k0_off47 d, k0_off47_inb d⟩,
    ⟨k0_off76 d, k0_off76_inb d⟩,
    ⟨k0_off122 d, k0_off122_inb d⟩,
    ⟨k0_off128 d, k0_off128_inb d⟩,
    ⟨k0_off103 d, k0_off103_inb d⟩]

/-- The printed offsets of the eight tiles of origin `r`. -/
def tOff (d : Dev nD) : Fin 8 → Fin 8 → StoreOff S8x256x256 ![1, 128, 64] :=
  ![![⟨k0_off8 d, k0_off8_inb d, k0_off8_packedbf16 d⟩,
      ⟨k0_off9 d, k0_off9_inb d, k0_off9_packedbf16 d⟩,
      ⟨k0_off10 d, k0_off10_inb d, k0_off10_packedbf16 d⟩,
      ⟨k0_off11 d, k0_off11_inb d, k0_off11_packedbf16 d⟩,
      ⟨k0_off12 d, k0_off12_inb d, k0_off12_packedbf16 d⟩,
      ⟨k0_off13 d, k0_off13_inb d, k0_off13_packedbf16 d⟩,
      ⟨k0_off14 d, k0_off14_inb d, k0_off14_packedbf16 d⟩,
      ⟨k0_off15 d, k0_off15_inb d, k0_off15_packedbf16 d⟩],
    ![⟨k0_off24 d, k0_off24_inb d, k0_off24_packedbf16 d⟩,
      ⟨k0_off25 d, k0_off25_inb d, k0_off25_packedbf16 d⟩,
      ⟨k0_off26 d, k0_off26_inb d, k0_off26_packedbf16 d⟩,
      ⟨k0_off27 d, k0_off27_inb d, k0_off27_packedbf16 d⟩,
      ⟨k0_off28 d, k0_off28_inb d, k0_off28_packedbf16 d⟩,
      ⟨k0_off29 d, k0_off29_inb d, k0_off29_packedbf16 d⟩,
      ⟨k0_off30 d, k0_off30_inb d, k0_off30_packedbf16 d⟩,
      ⟨k0_off31 d, k0_off31_inb d, k0_off31_packedbf16 d⟩],
    ![⟨k0_off55 d, k0_off55_inb d, k0_off55_packedbf16 d⟩,
      ⟨k0_off56 d, k0_off56_inb d, k0_off56_packedbf16 d⟩,
      ⟨k0_off57 d, k0_off57_inb d, k0_off57_packedbf16 d⟩,
      ⟨k0_off58 d, k0_off58_inb d, k0_off58_packedbf16 d⟩,
      ⟨k0_off59 d, k0_off59_inb d, k0_off59_packedbf16 d⟩,
      ⟨k0_off60 d, k0_off60_inb d, k0_off60_packedbf16 d⟩,
      ⟨k0_off61 d, k0_off61_inb d, k0_off61_packedbf16 d⟩,
      ⟨k0_off62 d, k0_off62_inb d, k0_off62_packedbf16 d⟩],
    ![⟨k0_off38 d, k0_off38_inb d, k0_off38_packedbf16 d⟩,
      ⟨k0_off39 d, k0_off39_inb d, k0_off39_packedbf16 d⟩,
      ⟨k0_off40 d, k0_off40_inb d, k0_off40_packedbf16 d⟩,
      ⟨k0_off41 d, k0_off41_inb d, k0_off41_packedbf16 d⟩,
      ⟨k0_off42 d, k0_off42_inb d, k0_off42_packedbf16 d⟩,
      ⟨k0_off43 d, k0_off43_inb d, k0_off43_packedbf16 d⟩,
      ⟨k0_off44 d, k0_off44_inb d, k0_off44_packedbf16 d⟩,
      ⟨k0_off45 d, k0_off45_inb d, k0_off45_packedbf16 d⟩],
    ![⟨k0_off67 d, k0_off67_inb d, k0_off67_packedbf16 d⟩,
      ⟨k0_off68 d, k0_off68_inb d, k0_off68_packedbf16 d⟩,
      ⟨k0_off69 d, k0_off69_inb d, k0_off69_packedbf16 d⟩,
      ⟨k0_off70 d, k0_off70_inb d, k0_off70_packedbf16 d⟩,
      ⟨k0_off71 d, k0_off71_inb d, k0_off71_packedbf16 d⟩,
      ⟨k0_off72 d, k0_off72_inb d, k0_off72_packedbf16 d⟩,
      ⟨k0_off73 d, k0_off73_inb d, k0_off73_packedbf16 d⟩,
      ⟨k0_off74 d, k0_off74_inb d, k0_off74_packedbf16 d⟩],
    ![⟨k0_off82 d, k0_off82_inb d, k0_off82_packedbf16 d⟩,
      ⟨k0_off83 d, k0_off83_inb d, k0_off83_packedbf16 d⟩,
      ⟨k0_off84 d, k0_off84_inb d, k0_off84_packedbf16 d⟩,
      ⟨k0_off85 d, k0_off85_inb d, k0_off85_packedbf16 d⟩,
      ⟨k0_off86 d, k0_off86_inb d, k0_off86_packedbf16 d⟩,
      ⟨k0_off87 d, k0_off87_inb d, k0_off87_packedbf16 d⟩,
      ⟨k0_off88 d, k0_off88_inb d, k0_off88_packedbf16 d⟩,
      ⟨k0_off89 d, k0_off89_inb d, k0_off89_packedbf16 d⟩],
    ![⟨k0_off109 d, k0_off109_inb d, k0_off109_packedbf16 d⟩,
      ⟨k0_off110 d, k0_off110_inb d, k0_off110_packedbf16 d⟩,
      ⟨k0_off111 d, k0_off111_inb d, k0_off111_packedbf16 d⟩,
      ⟨k0_off112 d, k0_off112_inb d, k0_off112_packedbf16 d⟩,
      ⟨k0_off113 d, k0_off113_inb d, k0_off113_packedbf16 d⟩,
      ⟨k0_off114 d, k0_off114_inb d, k0_off114_packedbf16 d⟩,
      ⟨k0_off115 d, k0_off115_inb d, k0_off115_packedbf16 d⟩,
      ⟨k0_off116 d, k0_off116_inb d, k0_off116_packedbf16 d⟩],
    ![⟨k0_off94 d, k0_off94_inb d, k0_off94_packedbf16 d⟩,
      ⟨k0_off95 d, k0_off95_inb d, k0_off95_packedbf16 d⟩,
      ⟨k0_off96 d, k0_off96_inb d, k0_off96_packedbf16 d⟩,
      ⟨k0_off97 d, k0_off97_inb d, k0_off97_packedbf16 d⟩,
      ⟨k0_off98 d, k0_off98_inb d, k0_off98_packedbf16 d⟩,
      ⟨k0_off99 d, k0_off99_inb d, k0_off99_packedbf16 d⟩,
      ⟨k0_off100 d, k0_off100_inb d, k0_off100_packedbf16 d⟩,
      ⟨k0_off101 d, k0_off101_inb d, k0_off101_packedbf16 d⟩]]

/-- The printed transfer slots of the query weights. -/
def wqOff (d : Dev nD) : Fin 8 → SlotOff wqLane :=
  ![⟨k0_off4 d, k0_off4_inb d, k0_off4_wordsbf16 d⟩,
    ⟨k0_off18 d, k0_off18_inb d, k0_off18_wordsbf16 d⟩,
    ⟨k0_off49 d, k0_off49_inb d, k0_off49_wordsbf16 d⟩,
    ⟨k0_off33 d, k0_off33_inb d, k0_off33_wordsbf16 d⟩,
    ⟨k0_off63 d, k0_off63_inb d, k0_off63_wordsbf16 d⟩,
    ⟨k0_off78 d, k0_off78_inb d, k0_off78_wordsbf16 d⟩,
    ⟨k0_off105 d, k0_off105_inb d, k0_off105_wordsbf16 d⟩,
    ⟨k0_off90 d, k0_off90_inb d, k0_off90_wordsbf16 d⟩]

/-- The printed transfer slots of the output weights. -/
def woOff (d : Dev nD) : Fin 8 → SlotOff woLane :=
  ![⟨k0_off5 d, k0_off5_inb d, k0_off5_wordsbf16 d⟩,
    ⟨k0_off117 d, k0_off117_inb d, k0_off117_wordsbf16 d⟩,
    ⟨k0_off123 d, k0_off123_inb d, k0_off123_wordsbf16 d⟩,
    ⟨k0_off34 d, k0_off34_inb d, k0_off34_wordsbf16 d⟩,
    ⟨k0_off20 d, k0_off20_inb d, k0_off20_wordsbf16 d⟩,
    ⟨k0_off120 d, k0_off120_inb d, k0_off120_wordsbf16 d⟩,
    ⟨k0_off126 d, k0_off126_inb d, k0_off126_wordsbf16 d⟩,
    ⟨k0_off51 d, k0_off51_inb d, k0_off51_wordsbf16 d⟩]

/-- The printed offsets of the receive semaphores. -/
def rOff (d : Dev nD) : Fin 8 → SemOff :=
  ![⟨k0_off3 d, k0_off3_inb d⟩,
    ⟨k0_off17 d, k0_off17_inb d⟩,
    ⟨k0_off48 d, k0_off48_inb d⟩,
    ⟨k0_off32 d, k0_off32_inb d⟩,
    ⟨k0_off19 d, k0_off19_inb d⟩,
    ⟨k0_off77 d, k0_off77_inb d⟩,
    ⟨k0_off104 d, k0_off104_inb d⟩,
    ⟨k0_off50 d, k0_off50_inb d⟩]

/-- The device a signal or a send of this device goes to: `1`, `2`, `3` for the three neighbours' signals, then the sends
    in program order. -/
def devP (d : Dev nD) : Fin 17 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩, ⟨k0_dev16 d, k0_dev16_lt d⟩,
    ⟨k0_dev17 d, k0_dev17_lt d⟩]

/-! ## The pieces -/

abbrev barS : Sem sig := (SemArray.scalar (sig.barrier 0 rfl) : Sems sig S_).sem

/-- Load one block of the query weights' buffer. -/
def loadQ (o : LoadOff S8x512x256 ![1, 512, 256]) : P F (Vec F S1x512x256 .bf16) :=
  Prog.lift (.load mWqAll (Rect.unit (s := S8x512x256) o.off S1x512x256.size o.inb).toLoadRect (View.loadsAt_vmem h_S1x512x256))

/-- Load one block of the output weights' buffer. -/
def loadO (o : LoadOff S8x256x512 ![1, 256, 512]) : P F (Vec F S1x256x512 .bf16) :=
  Prog.lift (.load mWoAll (Rect.unit (s := S8x256x512) o.off S1x256x512.size o.inb).toLoadRect (View.loadsAt_vmem h_S1x256x512))

/-- Load one batch's block of keys or of values. -/
def loadKV (m : Memref sig .tc .vmem S2x128x2048 .bf16) (o : LoadOff S2x128x2048 ![1, 128, 256]) : P F (Vec F S1x128x256 .bf16) :=
  Prog.lift (.load m (Rect.unit (s := S2x128x2048) o.off S1x128x256.size o.inb).toLoadRect (View.loadsAt_vmem h_S1x128x256))

/-- Load one block of the attention output. -/
def loadC (o : LoadOff S8x256x256 ![1, 256, 256]) : P F (Vec F S1x256x256 .bf16) :=
  Prog.lift (.load mCtx (Rect.unit (s := S8x256x256) o.off S1x256x256.size o.inb).toLoadRect (View.loadsAt_vmem h_S1x256x256))

/-- Load a whole buffer of 256 by 512. -/
def loadW {e : EltTy} (m : Memref sig .tc .vmem S256x512 e) : P F (Vec F S256x512 e) :=
  Prog.lift (.load m (Rect.unit (s := S256x512) ![0, 0] S256x512.size inb_S256x512_S256x512_0_0).toLoadRect (View.loadsAt_vmem h_S256x512))

/-- Store the whole result block. -/
def storeOut (v : FVec F S256x512 .f32) : P F PUnit :=
  Prog.lift (.store mOut (Rect.unit (s := S256x512) ![0, 0] S256x512.size inb_S256x512_S256x512_0_0) v Finset.univ
    (View.stores_vmem_bits_univ h_S256x512 rfl) (.inl rfl))

/-- Write one tile of the attention output (the vector store first reads what it overwrites). -/
def tileStep (o : StoreOff S8x256x256 ![1, 128, 64]) (v : FVec F S1x128x64 .bf16) : P F PUnit := do
  let _ ← (Prog.lift (.load mCtx (Rect.unit (s := S8x256x256) o.off S1x128x64.size o.inb).toLoadRect
    (View.loadsAt_vmem h_S1x128x64)) : P F (Vec F S1x128x64 .bf16))
  Prog.lift (.store mCtx (Rect.unit (s := S8x256x256) o.off S1x128x64.size o.inb) v Finset.univ
    (View.stores_vmem h_S1x128x64 ((Memref.isWhole_whole _).storeExact_slice rfl _ o.packed) (fun _ => rfl)) (.inl rfl))

/-- The attention of one block of heads. -/
def attn (oq : LoadOff S8x512x256 ![1, 512, 256]) (o0 o1 : LoadOff S2x128x2048 ![1, 128, 256])
    (ot : Fin 8 → StoreOff S8x256x256 ![1, 128, 64]) : P F PUnit := do
  let x ← loadW mXb
  let w ← loadQ oq
  let k0 ← loadKV mK o0
  let k1 ← loadKV mK o1
  let v0 ← loadKV mV o0
  let v1 ← loadKV mV o1
  tileStep (ot 0) (attnTile maskVal x w k0 k1 v0 v1 0)
  tileStep (ot 1) (attnTile maskVal x w k0 k1 v0 v1 1)
  tileStep (ot 2) (attnTile maskVal x w k0 k1 v0 v1 2)
  tileStep (ot 3) (attnTile maskVal x w k0 k1 v0 v1 3)
  tileStep (ot 4) (attnTile maskVal x w k0 k1 v0 v1 4)
  tileStep (ot 5) (attnTile maskVal x w k0 k1 v0 v1 5)
  tileStep (ot 6) (attnTile maskVal x w k0 k1 v0 v1 6)
  tileStep (ot 7) (attnTile maskVal x w k0 k1 v0 v1 7)

/-- The first contribution to the result. -/
def contribFirst (oc : LoadOff S8x256x256 ![1, 256, 256]) (ow : LoadOff S8x256x512 ![1, 256, 512]) : P F PUnit := do
  let c ← loadC oc
  let w ← loadO ow
  let _ ← loadW mOut
  storeOut (outFirst c w)

/-- A further contribution to the result. -/
def contribNext (oc : LoadOff S8x256x256 ![1, 256, 256]) (ow : LoadOff S8x256x512 ![1, 256, 512]) : P F PUnit := do
  let c ← loadC oc
  let w ← loadO ow
  let o ← loadW mOut
  let _ ← loadW mOut
  storeOut (outNext c w o)

/-- Send one slot to a neighbour. -/
def send (L : Lane) (o : SlotOff L) (r : SemOff) (k : Fin 7) (dst : Dev nD) : P F PUnit :=
  Prog.lift (.enqueueDma (L.slot o) (.remote (Dev.tc dst) (L.slot o) (.dma (L.sendSem k))) (.dma (L.recvSem r))
    (L.slot_exact o) (L.slot_exact o) ⟨⟨rfl, Or.inl rfl⟩, trivial⟩)

/-- Wait for a slot to arrive. -/
def waitRecv (L : Lane) (o : SlotOff L) (r : SemOff) : P F PUnit :=
  Prog.lift (.waitDma2 (L.recvSem r) (L.slot o) (L.slot o) (L.slot_exact o) (L.slot_exact o))

/-- Wait for a send to have left. -/
def waitSend (L : Lane) (o : SlotOff L) (k : Fin 7) : P F PUnit :=
  Prog.lift (.waitDma2 (L.sendSem k) (L.slot o) (L.slot o) (L.slot_exact o) (L.slot_exact o))

/-- The barrier: signal the three neighbours, then wait for all three. -/
def barrier (d : Dev nD) : P F PUnit := do
  semSignalWord (devP d 0) barS 1#32
  semSignalWord (devP d 1) barS 1#32
  semSignalWord (devP d 2) barS 1#32
  semWaitWord barS 3#32

/-- Stage this device's own activations and weights, rounded, in the scratch buffers. -/
def stage (d : Dev nD) : P F PUnit := do
  let x ← loadW mX
  let _ ← loadW mXb
  Prog.lift (.store mXb (Rect.unit (s := S256x512) ![0, 0] S256x512.size inb_S256x512_S256x512_0_0) (k0_pay1 x) Finset.univ
    (View.stores_vmem h_S256x512 ((Memref.isWhole_whole _).storeExact_slice rfl _ packedbf16_S256x512_S256x512_0_0) (fun _ => rfl)) (.inl rfl))
  let wq ← (Prog.lift (.load mWq (Rect.unit (s := S512x256) ![0, 0] S512x256.size inb_S512x256_S512x256_0_0).toLoadRect
    (View.loadsAt_vmem h_S512x256)) : P F (Vec F S512x256 .f32))
  let _ ← loadQ ⟨k0_off1 d, k0_off1_inb d⟩
  Prog.lift (.store mWqAll (Rect.unit (s := S8x512x256) (k0_off1 d) S1x512x256.size (k0_off1_inb d)) (k0_pay2 wq) Finset.univ
    (View.stores_vmem h_S1x512x256 ((Memref.isWhole_whole _).storeExact_slice rfl _ (k0_off1_packedbf16 d)) (fun _ => rfl)) (.inl rfl))
  let wo ← loadW mWo
  let _ ← loadO ⟨k0_off2 d, k0_off2_inb d⟩
  Prog.lift (.store mWoAll (Rect.unit (s := S8x256x512) (k0_off2 d) S1x256x512.size (k0_off2_inb d)) (k0_pay3 wo) Finset.univ
    (View.stores_vmem h_S1x256x512 ((Memref.isWhole_whole _).storeExact_slice rfl _ (k0_off2_packedbf16 d)) (fun _ => rfl)) (.inl rfl))

/-- The attention of origin `r` at device `d`, at the printed offsets. -/
def attnP (d : Dev nD) (r : Fin 8) : P F PUnit := attn (qOff d r) (kOff0 d r) (kOff1 d r) (tOff d r)

/-- The body. -/
def prog : P F PUnit := do
  let d ← Prog.lift .deviceId
  barrier d
  stage d
  send wqLane (wqOff d 0) (rOff d 0) 0 (devP d 3)
  send wqLane (wqOff d 0) (rOff d 0) 1 (devP d 4)
  send wqLane (wqOff d 0) (rOff d 0) 2 (devP d 5)
  send woLane (woOff d 0) (rOff d 0) 0 (devP d 6)
  send woLane (woOff d 0) (rOff d 0) 1 (devP d 7)
  send woLane (woOff d 0) (rOff d 0) 2 (devP d 8)
  attnP d 0
  contribFirst (cOff d 0) (oOff d 0)
  waitRecv wqLane (wqOff d 1) (rOff d 1)
  send wqLane (wqOff d 1) (rOff d 1) 3 (devP d 9)
  send wqLane (wqOff d 1) (rOff d 1) 4 (devP d 10)
  waitRecv woLane (woOff d 4) (rOff d 4)
  send woLane (woOff d 4) (rOff d 4) 3 (devP d 11)
  send woLane (woOff d 4) (rOff d 4) 4 (devP d 12)
  attnP d 1
  waitRecv wqLane (wqOff d 3) (rOff d 3)
  send wqLane (wqOff d 3) (rOff d 3) 5 (devP d 13)
  waitRecv woLane (woOff d 3) (rOff d 3)
  send woLane (woOff d 3) (rOff d 3) 5 (devP d 14)
  attnP d 3
  contribNext (cOff d 3) (oOff d 3)
  waitRecv wqLane (wqOff d 2) (rOff d 2)
  send wqLane (wqOff d 2) (rOff d 2) 6 (devP d 15)
  waitRecv woLane (woOff d 7) (rOff d 7)
  send woLane (woOff d 7) (rOff d 7) 6 (devP d 16)
  attnP d 2
  waitRecv wqLane (wqOff d 4) (rOff d 4)
  attnP d 4
  contribNext (cOff d 4) (oOff d 4)
  waitRecv wqLane (wqOff d 5) (rOff d 5)
  attnP d 5
  waitRecv wqLane (wqOff d 7) (rOff d 7)
  attnP d 7
  contribNext (cOff d 7) (oOff d 7)
  waitRecv wqLane (wqOff d 6) (rOff d 6)
  attnP d 6
  waitRecv woLane (woOff d 1) (rOff d 1)
  contribNext (cOff d 1) (oOff d 1)
  waitRecv woLane (woOff d 5) (rOff d 5)
  contribNext (cOff d 5) (oOff d 5)
  waitRecv woLane (woOff d 2) (rOff d 2)
  contribNext (cOff d 2) (oOff d 2)
  waitRecv woLane (woOff d 6) (rOff d 6)
  contribNext (cOff d 6) (oOff d 6)
  waitSend wqLane (wqOff d 0) 0
  waitSend wqLane (wqOff d 0) 1
  waitSend wqLane (wqOff d 0) 2
  waitSend woLane (woOff d 0) 0
  waitSend woLane (woOff d 0) 1
  waitSend woLane (woOff d 0) 2
  waitSend wqLane (wqOff d 1) 3
  waitSend wqLane (wqOff d 1) 4
  waitSend woLane (woOff d 4) 3
  waitSend woLane (woOff d 4) 4
  waitSend wqLane (wqOff d 3) 5
  waitSend woLane (woOff d 3) 5
  waitSend wqLane (wqOff d 2) 6
  waitSend woLane (woOff d 7) 6

/-- The body the pipeline calls is the program above. -/
theorem body_eq (h0 : mX.IsWhole) (h1 : mWq.IsWhole) (h2 : mK.IsWhole) (h3 : mV.IsWhole) (h4 : mWo.IsWhole) (h5 : mOut.IsWhole)
    (h6 : mXb.IsWhole) (h7 : mWqAll.IsWhole) (h8 : mWoAll.IsWhole) (h9 : mCtx.IsWhole) :
    (cc0_body mX h0 mWq h1 mK h2 mV h3 mWo h4 mOut h5 mXb h6 mWqAll h7 mWoAll h8 mCtx h9 cc0_scratch4 cc0_scratch5 cc0_scratch6
      cc0_scratch7 : P F PUnit) = prog := by
  chain_rfl

end Cert.KernelIdeal.Own

end
-- ==== Proof.Steps.lean ====
/- The body as a list of steps named by relation: every device does the same steps, and a block is named by the bitwise
   difference between its origin and the device. -/
module

public import proofs.«01_k».proof.Proof.Prog

@[expose] public section

noncomputable section

namespace Cert.KernelIdeal.Own

open Idealize.ShloMosaic Idealize.ShloMosaic.TcCoe Idealize.SL.Sem Cert.KernelIdeal Cert.KernelIdeal.Gen

variable {F : FTy → Type} [FloatOps F]

/-! ## Relations -/

/-- The device (or block) at relation `r` from `d`. -/
def nb (d r : Fin 8) : Fin 8 := d ^^^ r

theorem nb_nb (d r : Fin 8) : nb (nb d r) r = d := by revert d r; decide
theorem nb_zero (d : Fin 8) : nb d 0 = d := by revert d; decide
theorem nb_self (d s : Fin 8) : nb d (nb d s) = s := by revert d s; decide
theorem nb_comm (d r s : Fin 8) : nb (nb d r) s = nb (nb d s) r := by revert d r s; decide

/-- The three neighbours across the barrier. -/
def nbr : Fin 3 → Fin 8 := ![1, 3, 4]

/-- The relation of the slot that send `k` of a lane moves. -/
def sl : Bool → Fin 7 → Fin 8
  | false => ![0, 0, 0, 1, 1, 3, 2]
  | true => ![0, 0, 0, 4, 4, 3, 7]

/-- The relation of the device that send `k` of a lane goes to. -/
def tg : Bool → Fin 7 → Fin 8
  | false => ![1, 3, 4, 3, 4, 4, 4]
  | true => ![4, 3, 1, 3, 1, 1, 1]

/-- The relation, seen from the receiver, of the slot that send `k` fills. -/
def rr (l : Bool) (k : Fin 7) : Fin 8 := nb (sl l k) (tg l k)

theorem nb_tg_rr (l : Bool) (k : Fin 7) (c : Fin 8) : nb (nb c (tg l k)) (rr l k) = nb c (sl l k) := by
  revert l k c; decide
theorem nb_tg_sl (l : Bool) (k : Fin 7) (c : Fin 8) : nb (nb c (tg l k)) (sl l k) = nb c (rr l k) := by
  revert l k c; decide

/-- The lanes: the query weights, then the output weights. -/
def lane : Bool → Lane
  | false => wqLane
  | true => woLane

/-! ## The places in closed form -/

def qAt (s : Fin 8) : LoadOff S8x512x256 ![1, 512, 256] := ⟨k0_off1 s, k0_off1_inb s⟩
def kAt0 (s : Fin 8) : LoadOff S2x128x2048 ![1, 128, 256] := ⟨k0_off6 s, k0_off6_inb s⟩
def kAt1 (s : Fin 8) : LoadOff S2x128x2048 ![1, 128, 256] := ⟨k0_off7 s, k0_off7_inb s⟩
def cAt (s : Fin 8) : LoadOff S8x256x256 ![1, 256, 256] := ⟨k0_off16 s, k0_off16_inb s⟩
def oAt (s : Fin 8) : LoadOff S8x256x512 ![1, 256, 512] := ⟨k0_off2 s, k0_off2_inb s⟩
def tAt (s : Fin 8) : Fin 8 → StoreOff S8x256x256 ![1, 128, 64] := tOff s 0
def semAt (s : Fin 8) : SemOff := ⟨k0_off3 s, k0_off3_inb s⟩
def slotAt : (l : Bool) → Fin 8 → SlotOff (lane l)
  | false => fun s => ⟨k0_off4 s, k0_off4_inb s, k0_off4_wordsbf16 s⟩
  | true => fun s => ⟨k0_off5 s, k0_off5_inb s, k0_off5_wordsbf16 s⟩

theorem qOff_eq (d r : Fin 8) : qOff d r = qAt (nb d r) :=
  LoadOff.ext (by revert d r; decide +kernel)
theorem kOff0_eq (d r : Fin 8) : kOff0 d r = kAt0 (nb d r) :=
  LoadOff.ext (by revert d r; decide +kernel)
theorem kOff1_eq (d r : Fin 8) : kOff1 d r = kAt1 (nb d r) :=
  LoadOff.ext (by revert d r; decide +kernel)
theorem cOff_eq (d r : Fin 8) : cOff d r = cAt (nb d r) :=
  LoadOff.ext (by revert d r; decide +kernel)
theorem oOff_eq (d r : Fin 8) : oOff d r = oAt (nb d r) :=
  LoadOff.ext (by revert d r; decide +kernel)
theorem tOff_eq (d r : Fin 8) : tOff d r = tAt (nb d r) :=
  funext fun j => StoreOff.ext (by revert d r j; decide +kernel)
theorem rOff_eq (d r : Fin 8) : rOff d r = semAt (nb d r) :=
  SemOff.ext (by revert d r; decide +kernel)
theorem wqOff_eq (d r : Fin 8) : wqOff d r = slotAt false (nb d r) :=
  SlotOff.ext (by revert d r; decide +kernel)
theorem woOff_eq (d r : Fin 8) : woOff d r = slotAt true (nb d r) :=
  SlotOff.ext (by revert d r; decide +kernel)

/-- The relation of the device a signal or a send goes to. -/
def toRel : Fin 17 → Fin 8 := ![1, 3, 4, 1, 3, 4, 4, 3, 1, 3, 4, 3, 1, 4, 1, 4, 1]
theorem devP_eq (d : Fin 8) (i : Fin 17) : devP d i = nb d (toRel i) := by
  revert d i; decide +kernel

/-! ## The steps -/

/-- One step of the body after the staging. -/
inductive Step where
  /-- Send `k` of a lane leaves. -/
  | send (l : Bool) (k : Fin 7)
  /-- The slot at relation `r` of a lane has arrived. -/
  | recv (l : Bool) (r : Fin 8)
  /-- Send `k` of a lane has left. -/
  | left (l : Bool) (k : Fin 7)
  /-- The attention of the block at relation `r`. -/
  | attn (r : Fin 8)
  /-- The `i`-th contribution to the result. -/
  | contrib (i : Fin 8)

/-- The blocks in the order in which they contribute. -/
def order : Fin 8 → Fin 8 := ![0, 3, 4, 7, 1, 5, 2, 6]

/-- What a step runs at device `d`. -/
def Step.run (d : Fin 8) : Step → P F PUnit
  | .send l k => Own.send (lane l) (slotAt l (nb d (sl l k))) (semAt (nb d (sl l k))) k (nb d (tg l k))
  | .recv l r => waitRecv (lane l) (slotAt l (nb d r)) (semAt (nb d r))
  | .left l k => waitSend (lane l) (slotAt l (nb d (sl l k))) k
  | .attn r => Own.attn (qAt (nb d r)) (kAt0 (nb d r)) (kAt1 (nb d r)) (tAt (nb d r))
  | .contrib i => if i = 0 then contribFirst (cAt (nb d (order i))) (oAt (nb d (order i)))
      else contribNext (cAt (nb d (order i))) (oAt (nb d (order i)))

/-- The steps in program order. -/
def steps : List Step :=
  [.send false 0, .send false 1, .send false 2, .send true 0, .send true 1, .send true 2, .attn 0, .contrib 0,
    .recv false 1, .send false 3, .send false 4, .recv true 4, .send true 3, .send true 4, .attn 1,
    .recv false 3, .send false 5, .recv true 3, .send true 5, .attn 3, .contrib 1,
    .recv false 2, .send false 6, .recv true 7, .send true 6, .attn 2,
    .recv false 4, .attn 4, .contrib 2, .recv false 5, .attn 5, .recv false 7, .attn 7, .contrib 3,
    .recv false 6, .attn 6, .recv true 1, .contrib 4, .recv true 5, .contrib 5, .recv true 2, .contrib 6,
    .recv true 6, .contrib 7,
    .left false 0, .left false 1, .left false 2, .left true 0, .left true 1, .left true 2, .left false 3, .left false 4,
    .left true 3, .left true 4, .left false 5, .left true 5, .left false 6, .left true 6]

/-- Run a list of steps. -/
def runAll (d : Fin 8) : List Step → P F PUnit
  | [] => pure ⟨⟩
  | [s] => s.run d
  | s :: s' :: l => do
    s.run d
    runAll d (s' :: l)

/-- The barrier by relation. -/
def barrierR (d : Fin 8) : P F PUnit := do
  semSignalWord (nb d 1) barS 1#32
  semSignalWord (nb d 3) barS 1#32
  semSignalWord (nb d 4) barS 1#32
  semWaitWord barS 3#32

/-- The body by relation. -/
def progR : P F PUnit := do
  let d ← Prog.lift .deviceId
  barrierR d
  stage d
  runAll d steps

theorem prog_eq : (prog : P F PUnit) = progR := by
  unfold prog progR
  refine congrArg (Prog.bind _) (funext fun d => ?_)
  have h0 : toRel 0 = 1 := rfl
  unfold barrier attnP
  simp only [qOff_eq, kOff0_eq, kOff1_eq, cOff_eq, oOff_eq, tOff_eq, rOff_eq, wqOff_eq, woOff_eq, devP_eq]
  rfl

end Cert.KernelIdeal.Own

end
-- ==== Proof.Protocol.lean ====
/- The protocol of the two all-gathers: the cells, what each landing pays, who owes what, and the levels by which no wait
   can be circular. -/
module

public import proofs.«01_k».proof.Proof.Steps
public import Idealize.ShloMosaic.Lib.Pipeline.Kit
public import Idealize.ShloMosaic.Lib.Pipeline.Launch
public import Idealize.ShloMosaic.Lib.Rounds
public import Idealize.ShloMosaic.Lib.Tactic
public import Idealize.ShloMosaic.PureOps

@[expose] public section

noncomputable section

namespace Cert.KernelIdeal.Own

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

abbrev UB := URounds (GSem nD τ sig) (Fin 3)
abbrev UU := UR sig nD τ × UB
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The blocks each device starts from, and the gathered buffers -/

/-- The blocks every device's body reads: activations, query weights, keys, values, output weights. -/
structure Ins (F : FTy → Type) where
  x : Dev nD → FVec F S256x512 .f32
  wq : Dev nD → FVec F S512x256 .f32
  k : Dev nD → FVec F S2x128x2048 .bf16
  v : Dev nD → FVec F S2x128x2048 .bf16
  wo : Dev nD → FVec F S256x512 .f32

/-- The query weights of all devices, rounded, block by block. -/
def wqAll (I : Ins F) : FVec F S8x512x256 .bf16 := fun i =>
  k0_pay2 (I.wq (i 0)) (fun | 0 => (0 : Fin 1) | 1 => i 1 | 2 => i 2)

/-- The output weights of all devices, rounded, block by block. -/
def woAll (I : Ins F) : FVec F S8x256x512 .bf16 := fun i =>
  k0_pay3 (I.wo (i 0)) (fun | 0 => (0 : Fin 1) | 1 => i 1 | 2 => i 2)

/-- What a lane's buffer holds once gathered. -/
def gath (I : Ins F) : (l : Bool) → (lane l).m.view.ref.ty.Contents (Elt F)
  | false => wqAll I
  | true => woAll I

/-! ## Cells -/

def recvS (l : Bool) (s : Fin 8) : DmaSem sig := (lane l).recvSem (semAt s)
def sendS (l : Bool) (k : Fin 7) : DmaSem sig := (lane l).sendSem k

abbrev barC (c : Dev nD) : GSem nD τ sig := ((c : Thread nD τ), .reg barS)
abbrev recvC (l : Bool) (c s : Dev nD) : GSem nD τ sig := ((c : Thread nD τ), .dma (recvS l s))
abbrev sendC (l : Bool) (c : Dev nD) (k : Fin 7) : GSem nD τ sig := ((c : Thread nD τ), .dma (sendS l k))

/-- What a semaphore is for. -/
inductive Role where
  | send (l : Bool) (k : Fin 7)
  | recv (l : Bool) (s : Fin 8)
  | bar
  | other
  deriving DecidableEq

/-- The use of each semaphore. -/
def role : SemLoc sig → Role
  | .reg _ => .bar
  | .dma n =>
    if h : 6 ≤ n.val ∧ n.val < 13 then .send false ⟨n.val - 6, by omega⟩
    else if h : 13 ≤ n.val ∧ n.val < 21 then .recv false ⟨n.val - 13, by omega⟩
    else if h : 21 ≤ n.val ∧ n.val < 28 then .send true ⟨n.val - 21, by omega⟩
    else if h : 28 ≤ n.val ∧ n.val < 36 then .recv true ⟨n.val - 28, by omega⟩
    else .other

theorem role_send (l : Bool) (k : Fin 7) : role (.dma (sendS l k)) = .send l k := by revert l k; decide
theorem role_recv (l : Bool) (s : Fin 8) : role (.dma (recvS l s)) = .recv l s := by revert l s; decide
theorem role_bar : role (.reg barS) = .bar := rfl

/-! ## Slots and their shares -/

abbrev slotM (l : Bool) (s : Fin 8) : Memref sig .tc .vmem (lane l).one .bf16 := (lane l).slot (slotAt l s)

/-- Slot `s` of device `c`'s buffer at share `q`, with the contents `f` has there. -/
def slotPts (l : Bool) (c : Dev nD) (s : Fin 8) (q : PosShare TreeShare) (f : (lane l).m.view.ref.ty.Contents (Elt F)) : sProp 𝕄 :=
  (slotM l s).view.loc (c : Thread nD τ) ↦[(slotM l s).view.set]{q} f

instance pts_storable (a : Loc nD τ sig) (J : Finset (Idx a)) (q : PosShare TreeShare) (f : Buf (Elt F) a) :
    BI.Storable (upEmb : UEmb _ 𝕄) (a ↦[J]{q} f : sProp 𝕄) := inferInstance

instance slotPts_storable (l : Bool) (c : Dev nD) (s : Fin 8) (q : PosShare TreeShare)
    (f : (lane l).m.view.ref.ty.Contents (Elt F)) : BI.Storable (upEmb : UEmb _ 𝕄) (slotPts l c s q f : sProp 𝕄) :=
  pts_storable _ _ _ _

/-- How many sends read the slot at relation `r`. -/
def nS : Bool → Fin 8 → Fin 4
  | false => ![3, 2, 1, 1, 0, 0, 0, 0]
  | true => ![3, 0, 0, 1, 2, 0, 0, 1]

/-- Which of its slot's shares send `k` takes. -/
def qi (k : Fin 7) : Fin 4 := ![1, 2, 3, 1, 2, 1, 1] k

/-- The shares of a slot that `n` sends read: one kept, one for each send. -/
def shareOf : Fin 4 → Fin 4 → PosShare TreeShare
  | 0 => fun _ => fullShare
  | 1 => ![fullShare.left, fullShare.right, fullShare.right, fullShare.right]
  | 2 => ![fullShare.left, fullShare.right.left, fullShare.right.right, fullShare.right]
  | 3 => ![fullShare.left, fullShare.right.left, fullShare.right.right.left, fullShare.right.right.right]

/-- The shares in use. -/
def pieces (n : Fin 4) : Finset (Fin 4) := Finset.univ.filter (· ≤ n)

theorem slot_half (l : Bool) (c : Dev nD) (s : Fin 8) (q : PosShare TreeShare) (f : (lane l).m.view.ref.ty.Contents (Elt F)) :
    (slotPts l c s q f : sProp 𝕄) = iprop(slotPts l c s q.left f ∗ slotPts l c s q.right f) :=
  have h := pointsTo_share (Ix := Unit) (Name := ℕ) (U := UU) (Lvl := ℕ) (ℓ := (slotM l s).view.loc (c : Thread nD τ))
    (I := (slotM l s).view.set) (f := f) (PosShare.mem_left_op_right q)
  BI.equiv_iff.mp ⟨h.1, h.2⟩

theorem slot_pieces (l : Bool) (c : Dev nD) (s : Fin 8) (n : Fin 4) (f : (lane l).m.view.ref.ty.Contents (Elt F)) :
    (slotPts l c s fullShare f : sProp 𝕄) = bigSep (pieces n) fun i => slotPts l c s (shareOf n i) f := by
  fin_cases n
  · refine Eq.trans ?_ (bigSep_eq_bigSepL_of_eq (S := pieces 0) [0] (by decide) (by decide) _).symm
    rfl
  · refine Eq.trans ?_ (bigSep_eq_bigSepL_of_eq (S := pieces 1) [0, 1] (by decide) (by decide) _).symm
    exact slot_half l c s fullShare f
  · refine Eq.trans ?_ (bigSep_eq_bigSepL_of_eq (S := pieces 2) [0, 1, 2] (by decide) (by decide) _).symm
    refine (slot_half l c s fullShare f).trans ?_
    rw [slot_half l c s fullShare.right f]
    rfl
  · refine Eq.trans ?_ (bigSep_eq_bigSepL_of_eq (S := pieces 3) [0, 1, 2, 3] (by decide) (by decide) _).symm
    refine (slot_half l c s fullShare f).trans ?_
    rw [slot_half l c s fullShare.right f, slot_half l c s fullShare.right.right f]
    rfl

/-- Bytes one transfer credits. -/
def N : ℕ := (slotM false 0).view.dmaCredit
theorem N_pos : 0 < N := View.dmaCredit_pos _ (by decide)
theorem N_eq (l : Bool) (s : Fin 8) : (slotM l s).view.dmaCredit = N := by
  cases l <;> rfl

/-! ## The schedule -/

/-- What send `k` of device `c` needs of its target: the slot there, and that its receive cell is open. -/
def landing (l : Bool) (k : Fin 7) (c : Dev nD) : sProp 𝕄 :=
  iprop((∃ f, slotPts l (nb c (tg l k)) (nb c (sl l k)) fullShare f)
    ∗ reached ER (recvC l (nb c (tg l k)) (nb c (sl l k))) 0)

/-- The sends that go to neighbour `j`. -/
def sendsTo (j : Fin 3) : Finset (Bool × Fin 7) := Finset.univ.filter fun p => tg p.1 p.2 = nbr j

/-- What neighbour `j` pays into device `c`'s barrier: the slots `c` will fill there. -/
def barPay (c : Dev nD) (j : Fin 3) : sProp 𝕄 := bigSep (sendsTo j) fun p => landing p.1 p.2 c

/-- What a cell of device `c` is paid with. -/
def pay (I : Ins F) (c : Dev nD) : Role → Fin 3 → sProp 𝕄
  | .send l k, _ => slotPts l c (nb c (sl l k)) (shareOf (nS l (sl l k)) (qi k)) (gath I l)
  | .recv l s, _ => slotPts l c s fullShare (gath I l)
  | .bar, j => barPay c j
  | .other, _ => iprop(emp)

def dutiesOf (c : Dev nD) : Role → Finset (Fin 3)
  | .send _ _ => {0}
  | .recv _ s => if s = c then ∅ else {0}
  | .bar => Finset.univ
  | .other => ∅

def amountOf : Role → ℕ
  | .bar => 1
  | _ => N

/-- One round on every cell. -/
def rd (I : Ins F) : Rounds.Schedule (GSem nD τ sig) (Fin 3) 𝕄 where
  duties g r := if r = 0 ∧ g.1.2 = .tc then dutiesOf g.1.1 (role g.2) else ∅
  unitless _ := False
  amount g _ _ := amountOf (role g.2)
  payload g _ d := pay I g.1.1 (role g.2) d
  amount_pos g _ _ _ := by
    cases role g.2 <;> first | exact N_pos | exact Nat.one_pos

instance rd_payload_storable (I : Ins F) (g : GSem nD τ sig) (r : ℕ) (d : Fin 3) :
    BI.Storable (upEmb : UEmb _ 𝕄) ((rd I).payload g r d) := by
  show BI.Storable upEmb (pay I g.1.1 (role g.2) d)
  unfold pay barPay landing
  split <;> infer_instance

section Sched

variable (I : Ins F) (c : Dev nD)

theorem duties_later (g : GSem nD τ sig) : ∀ r, 1 ≤ r → (rd I).duties g r = ∅ := fun r hr => by
  dsimp only [rd]; exact if_neg fun h => by omega
theorem duties_send (l : Bool) (k : Fin 7) : (rd I).duties (sendC l c k) 0 = {0} := by
  dsimp only [rd]; rw [if_pos ⟨rfl, rfl⟩, role_send]; rfl
theorem duties_recv (l : Bool) (s : Dev nD) (h : s ≠ c) : (rd I).duties (recvC l c s) 0 = {0} := by
  dsimp only [rd]; rw [if_pos ⟨rfl, rfl⟩, role_recv]; exact if_neg h
theorem duties_own (l : Bool) (r : ℕ) : (rd I).duties (recvC l c c) r = ∅ := by
  dsimp only [rd]; split
  · rw [role_recv]; exact if_pos rfl
  · rfl
theorem duties_bar : (rd I).duties (barC c) 0 = Finset.univ := by
  dsimp only [rd]; rw [if_pos ⟨rfl, rfl⟩]; rfl
theorem amount_send (l : Bool) (k : Fin 7) (d : Fin 3) : (rd I).amount (sendC l c k) 0 d = N := by
  dsimp only [rd]; rw [role_send]; rfl
theorem amount_recv (l : Bool) (s : Dev nD) (d : Fin 3) : (rd I).amount (recvC l c s) 0 d = N := by
  dsimp only [rd]; rw [role_recv]; rfl
theorem amount_bar (d : Fin 3) : (rd I).amount (barC c) 0 d = 1 := rfl
theorem expect_send (l : Bool) (k : Fin 7) : (rd I).expect (sendC l c k) 0 = N := by
  unfold Schedule.expect Schedule.amountOf; rw [duties_send, Finset.sum_singleton, amount_send]
theorem expect_recv (l : Bool) (s : Dev nD) (h : s ≠ c) : (rd I).expect (recvC l c s) 0 = N := by
  unfold Schedule.expect Schedule.amountOf; rw [duties_recv I c l s h, Finset.sum_singleton, amount_recv]
theorem expect_bar : (rd I).expect (barC c) 0 = 3 := by
  unfold Schedule.expect Schedule.amountOf; rw [duties_bar]; rfl
theorem payload_send (l : Bool) (k : Fin 7) (d : Fin 3) : (rd I).payload (sendC l c k) 0 d
    = slotPts l c (nb c (sl l k)) (shareOf (nS l (sl l k)) (qi k)) (gath I l) := by
  dsimp only [rd]; rw [role_send]; rfl
theorem payload_recv (l : Bool) (s : Dev nD) (d : Fin 3) : (rd I).payload (recvC l c s) 0 d
    = slotPts l c s fullShare (gath I l) := by
  dsimp only [rd]; rw [role_recv]; rfl
theorem payload_bar (d : Fin 3) : (rd I).payload (barC c) 0 d = barPay c d := rfl
theorem rest_send (l : Bool) (k : Fin 7) :
    bigSep ((rd I).duties (sendC l c k) 0 \ ∅) (fun d => (rd I).payload (sendC l c k) 0 d)
      = slotPts l c (nb c (sl l k)) (shareOf (nS l (sl l k)) (qi k)) (gath I l) := by
  rw [Finset.sdiff_empty, duties_send, bigSep_singleton, payload_send]
theorem rest_recv (l : Bool) (s : Dev nD) (h : s ≠ c) :
    bigSep ((rd I).duties (recvC l c s) 0 \ ∅) (fun d => (rd I).payload (recvC l c s) 0 d)
      = slotPts l c s fullShare (gath I l) := by
  rw [Finset.sdiff_empty, duties_recv I c l s h, bigSep_singleton, payload_recv]
/-- All three neighbours' payments together: every send's landing. -/
theorem rest_bar : bigSep ((rd I).duties (barC c) 0 \ ∅) (fun d => (rd I).payload (barC c) 0 d)
    = bigSep Finset.univ fun p : Bool × Fin 7 => landing (F := F) p.1 p.2 c := by
  rw [Finset.sdiff_empty, duties_bar]
  show bigSep Finset.univ (fun j => bigSep (sendsTo j) fun p => landing p.1 p.2 c) = _
  rw [show (Finset.univ : Finset (Bool × Fin 7)) = Finset.univ.biUnion sendsTo by decide]
  exact (bigSep_biUnion_eq _ _ _ (by decide)).symm

end Sched

/-! ## Who owes what -/

/-- What send `p` of device `c` pays. -/
def tally (c : Dev nD) (p : Bool × Fin 7) : CellTallies nD τ sig Unit :=
  tallyAt (recvC p.1 (nb c (tg p.1 p.2)) (nb c (sl p.1 p.2))) () N

/-- What a list of sends still to come pays. -/
def dues (c : Dev nD) : List (Bool × Fin 7) → CellTallies nD τ sig Unit
  | [] => 0
  | p :: l => dues c l + tally c p

/-- What the three signals pay. -/
def dueBar (c : Dev nD) (j : Fin 3) : CellTallies nD τ sig Unit := tallyAt (barC (nb c (nbr j))) () 1

/-- The sends in program order. -/
def sends : List (Bool × Fin 7) :=
  [(false, 0), (false, 1), (false, 2), (true, 0), (true, 1), (true, 2), (false, 3), (false, 4), (true, 3), (true, 4),
    (false, 5), (true, 5), (false, 6), (true, 6)]

/-- What a device owes at launch. -/
def O₀ (c : Dev nD) : CellTallies nD τ sig Unit := dues c sends + dueBar c 2 + dueBar c 1 + dueBar c 0

def L (g : GSem nD τ sig) : Finset Unit := if g.1.2 = .tc then {()} else ∅

/-- How many hops the slot at relation `r` has come, past the barrier. -/
def rlv : Fin 8 → ℕ := ![0, 2, 3, 2, 2, 3, 4, 3]

def lvOf (c : Dev nD) : Role → ℕ
  | .bar => 1
  | .recv _ s => rlv (nb c s)
  | _ => 0

def lv (g : GSem nD τ sig) (_ : Unit) : ℕ := lvOf g.1.1 (role g.2)

theorem L_tc (c : Dev nD) (sm : SemLoc sig) : L ((c : Thread nD τ), sm) = {()} := if_pos rfl
theorem L_of_ne (g : GSem nD τ sig) (h : g.1.2 ≠ .tc) : L g = ∅ := if_neg h

theorem lv_recv (c s : Dev nD) (l : Bool) : lv (recvC l c s) () = rlv (nb c s) := by
  unfold lv; rw [role_recv]; rfl
theorem lv_send (c : Dev nD) (l : Bool) (k : Fin 7) : lv (sendC l c k) () = 0 := by
  unfold lv; rw [role_send]; rfl

theorem rel_target (c : Dev nD) (l : Bool) (k : Fin 7) : nb (nb c (tg l k)) (nb c (sl l k)) = rr l k := by
  revert c l k; decide

theorem dues_pos (c : Dev nD) (l : List (Bool × Fin 7)) (g : GSem nD τ sig) (u : Unit) (h : 0 < dues c l g u) :
    ∃ p ∈ l, g = recvC p.1 (nb c (tg p.1 p.2)) (nb c (sl p.1 p.2)) := by
  induction l with
  | nil => exact absurd h (Nat.lt_irrefl 0)
  | cons p l ih =>
    by_cases hg : g = recvC p.1 (nb c (tg p.1 p.2)) (nb c (sl p.1 p.2))
    · exact ⟨p, List.mem_cons_self, hg⟩
    · have h' : 0 < dues c l g u + tallyAt (recvC p.1 (nb c (tg p.1 p.2)) (nb c (sl p.1 p.2))) () N g u := h
      rw [tallyAt_apply, if_neg (fun e => hg e.1), Nat.add_zero] at h'
      obtain ⟨q, hq, e⟩ := ih h'
      exact ⟨q, List.mem_cons_of_mem _ hq, e⟩

/-- A wait at a level below that of every send still to come. -/
theorem mayWait (c : Dev nD) (sm : SemLoc sig) (n : ℕ) (l : List (Bool × Fin 7)) (hn : lv ((c : Thread nD τ), sm) () ≤ n)
    (hl : ∀ p ∈ l, n < rlv (rr p.1 p.2)) : (levAts L lv : sProp 𝕄) ⊢ MayWait (c : Thread nD τ) sm () (dues c l) :=
  MayOwe.of_cut (L := L) (lev := lv) n
    (fun p hp => by rw [Finset.mem_singleton.mp hp, L_tc]; exact Finset.mem_singleton_self _)
    (fun g u hg => by
      obtain ⟨p, -, rfl⟩ := dues_pos c l g u hg
      rw [L_tc]; exact Finset.mem_singleton_self _)
    (fun p hp => by rw [Finset.mem_singleton.mp hp]; exact hn)
    (fun g u hg => by
      obtain ⟨p, hp, rfl⟩ := dues_pos c l g u hg
      cases u
      rw [lv_recv, rel_target]; exact hl p hp)

end Cert.KernelIdeal.Own

end
-- ==== Proof.Geometry.lean ====
/- The three buffers of eight blocks: block `s` is the elements whose first coordinate is `s`; what a load of a block reads,
   what a landing leaves, and what a tile's store leaves. -/
module

public import proofs.«01_k».proof.Proof.Protocol

@[expose] public section

noncomputable section

namespace Cert.KernelIdeal.Own

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

/-! ## Blocks -/

/-- Block `s` of a buffer of eight blocks. -/
def blk (b c : ℕ) (s : Fin 8) : Finset (⟨3, ![8, b, c]⟩ : Shape).Idx := Finset.univ.filter fun i => (i 0).val = s.val

theorem mem_blk {b c : ℕ} {s : Fin 8} {i : (⟨3, ![8, b, c]⟩ : Shape).Idx} : i ∈ blk b c s ↔ i 0 = s := by
  unfold blk; rw [Finset.mem_filter]; exact ⟨fun h => Fin.ext h.2, fun h => ⟨Finset.mem_univ _, congrArg Fin.val h⟩⟩

theorem blk_disjoint {b c : ℕ} (s t : Fin 8) (h : s ≠ t) : Disjoint (blk b c s) (blk b c t) :=
  Finset.disjoint_left.mpr fun _ hi hj => h ((mem_blk.mp hi).symm.trans (mem_blk.mp hj))

theorem blk_union (b c : ℕ) : Finset.univ.biUnion (blk b c) = Finset.univ :=
  Finset.eq_univ_of_forall fun i => Finset.mem_biUnion.mpr ⟨i 0, Finset.mem_univ _, mem_blk.mpr rfl⟩

/-- A rectangle of one whole block is that block. -/
theorem unit_blk (b c : ℕ) (s : Fin 8) (off : Fin 3 → ℕ) (sz : Fin 3 → ℕ) (inb : ∀ a, off a + sz a ≤ (⟨3, ![8, b, c]⟩ : Shape).size a)
    (ho : off = ![s.val, 0, 0]) (hs : sz = ![1, b, c]) :
    (Rect.unit (s := (⟨3, ![8, b, c]⟩ : Shape)) off sz inb).set = blk b c s := by
  subst ho hs
  ext i
  rw [Rect.mem_set_unit, mem_blk]
  constructor
  · intro h
    have h0 := h 0
    simp only [Matrix.cons_val_zero] at h0
    exact Fin.ext (by omega)
  · intro h a
    fin_cases a
    · rw [← h]; exact ⟨Nat.le_refl _, Nat.lt_succ_self _⟩
    · exact ⟨Nat.zero_le _, (Nat.zero_add b).symm ▸ (i 1).isLt⟩
    · exact ⟨Nat.zero_le _, (Nat.zero_add c).symm ▸ (i 2).isLt⟩

theorem slot_set_wq (s : Fin 8) : (slotM false s).view.set = blk 512 256 s :=
  (View.set_reshape _ _).trans ((View.set_slice_whole _ _).trans (unit_blk 512 256 s _ _ _ (k0_off4_eq s) rfl))
theorem slot_set_wo (s : Fin 8) : (slotM true s).view.set = blk 256 512 s :=
  (View.set_reshape _ _).trans ((View.set_slice_whole _ _).trans (unit_blk 256 512 s _ _ _ (k0_off5_eq s) rfl))

/-- The rectangles the body's accesses name. -/
abbrev qRect (s : Fin 8) : Rect S8x512x256 := Rect.unit (s := S8x512x256) (k0_off1 s) S1x512x256.size (k0_off1_inb s)
abbrev oRect (s : Fin 8) : Rect S8x256x512 := Rect.unit (s := S8x256x512) (k0_off2 s) S1x256x512.size (k0_off2_inb s)
abbrev cRect (s : Fin 8) : Rect S8x256x256 := Rect.unit (s := S8x256x256) (k0_off16 s) S1x256x256.size (k0_off16_inb s)
abbrev tRect (s j : Fin 8) : Rect S8x256x256 := Rect.unit (s := S8x256x256) (tAt s j).off S1x128x64.size (tAt s j).inb

theorem q_set (s : Fin 8) : (mWqAll.access (qRect s)).set = blk 512 256 s :=
  (View.set_slice_whole _ _).trans (unit_blk 512 256 s _ _ _ (k0_off1_eq s) rfl)
theorem o_set (s : Fin 8) : (mWoAll.access (oRect s)).set = blk 256 512 s :=
  (View.set_slice_whole _ _).trans (unit_blk 256 512 s _ _ _ (k0_off2_eq s) rfl)
theorem c_set (s : Fin 8) : (mCtx.access (cRect s)).set = blk 256 256 s :=
  (View.set_slice_whole _ _).trans (unit_blk 256 256 s _ _ _ (k0_off16_eq s) rfl)

/-- Two indices of three coordinates with equal values are equal. -/
theorem idx3_ext {s : Shape} (h3 : s.rank = 3) {i j : s.Idx} (h : ∀ a, (i a).val = (j a).val) : i = j :=
  funext fun a => Fin.ext (h a)

/-- What a load of block `s` of the gathered query weights reads: device `s`'s block. -/
theorem q_read (I : Ins F) (s : Fin 8) : (mWqAll.access (qRect s)).read (Elt F) (wqAll I) = k0_pay2 (I.wq s) := by
  have ho := k0_off1_eq s
  funext x
  show wqAll I ((qRect s).emb x) = _
  have h0 : ((qRect s).emb x) 0 = s := Fin.ext (by
    show (k0_off1 s) 0 + 1 * (x 0).val = s.val
    have hx : (x 0).val < 1 := (x 0).isLt
    rw [ho]; simp only [Matrix.cons_val_zero]; omega)
  have hx : (fun | 0 => (0 : Fin 1) | 1 => ((qRect s).emb x) 1 | 2 => ((qRect s).emb x) 2 : S1x512x256.Idx) = x := by
    funext a; fin_cases a
    · exact (Fin.eq_zero (x 0 : Fin 1)).symm
    · refine Fin.ext ?_
      show (k0_off1 s) 1 + 1 * (x 1).val = (x 1).val
      rw [ho]; simp
    · refine Fin.ext ?_
      show (k0_off1 s) 2 + 1 * (x 2).val = (x 2).val
      rw [ho]; simp
  unfold wqAll
  rw [h0]
  exact congrArg _ hx

/-- What a load of block `s` of the gathered output weights reads. -/
theorem o_read (I : Ins F) (s : Fin 8) : (mWoAll.access (oRect s)).read (Elt F) (woAll I) = k0_pay3 (I.wo s) := by
  have ho := k0_off2_eq s
  funext x
  show woAll I ((oRect s).emb x) = _
  have h0 : ((oRect s).emb x) 0 = s := Fin.ext (by
    show (k0_off2 s) 0 + 1 * (x 0).val = s.val
    have hx : (x 0).val < 1 := (x 0).isLt
    rw [ho]; simp only [Matrix.cons_val_zero]; omega)
  have hx : (fun | 0 => (0 : Fin 1) | 1 => ((oRect s).emb x) 1 | 2 => ((oRect s).emb x) 2 : S1x256x512.Idx) = x := by
    funext a; fin_cases a
    · exact (Fin.eq_zero (x 0 : Fin 1)).symm
    · refine Fin.ext ?_
      show (k0_off2 s) 1 + 1 * (x 1).val = (x 1).val
      rw [ho]; simp
    · refine Fin.ext ?_
      show (k0_off2 s) 2 + 1 * (x 2).val = (x 2).val
      rw [ho]; simp
  unfold woAll
  rw [h0]
  exact congrArg _ hx

/-! ## What a landing leaves -/

theorem landed (l : Bool) (c : Dev nD) (s : Fin 8) (q : PosShare TreeShare) (fd fs : (lane l).m.view.ref.ty.Contents (Elt F)) :
    ((slotM l s).view.loc (c : Thread nD τ) ↦[(slotM l s).view.set]{q}
        (slotM l s).view.write (Elt F) fd ((slotM l s).view.read (Elt F) fs) Finset.univ : sProp 𝕄)
      = slotPts l c s q fs := by
  unfold slotPts
  refine pointsTo_congr fun i hi => ?_
  exact (congrFun (View.write_read_eq_piecewise (v := (slotM l s).view) fd fs Finset.univ) i).trans
    (Finset.piecewise_eq_of_mem _ _ _ hi)

/-! ## The staged own blocks -/

theorem wq_staged (I : Ins F) (c : Dev nD) (f : FVec F S8x512x256 .bf16) (i : S8x512x256.Idx) (hi : i ∈ blk 512 256 c) :
    (mWqAll.access (qRect c)).write (Elt F) f (k0_pay2 (I.wq c)) Finset.univ i = wqAll I i := by
  rw [← q_read I c, View.write_read_eq_piecewise]
  exact Finset.piecewise_eq_of_mem _ _ _ (by rw [← q_set c] at hi; exact hi)

theorem wo_staged (I : Ins F) (c : Dev nD) (f : FVec F S8x256x512 .bf16) (i : S8x256x512.Idx) (hi : i ∈ blk 256 512 c) :
    (mWoAll.access (oRect c)).write (Elt F) f (k0_pay3 (I.wo c)) Finset.univ i = woAll I i := by
  rw [← o_read I c, View.write_read_eq_piecewise]
  exact Finset.piecewise_eq_of_mem _ _ _ (by rw [← o_set c] at hi; exact hi)

/-! ## The attention output -/

/-- Batch `b`'s keys or values of block `s`. -/
def kvBlk (k : FVec F S2x128x2048 .bf16) (b : Fin 2) (s : Fin 8) : Vec F S1x128x256 .bf16 := fun i =>
  k (fun | 0 => b | 1 => i 1 | 2 => (⟨256 * s.val + (i 2).val, by have : (i 2).val < 256 := (i 2).isLt; omega⟩ : Fin 2048))

/-- Tile `j` of block `s` of the attention output at device `c`. -/
def ctxTile (I : Ins F) (c : Dev nD) (s j : Fin 8) : FVec F S1x128x64 .bf16 :=
  attnTile maskVal (k0_pay1 (I.x c)) (k0_pay2 (I.wq s)) (kvBlk (I.k c) 0 s) (kvBlk (I.k c) 1 s)
    (kvBlk (I.v c) 0 s) (kvBlk (I.v c) 1 s) j

/-- The tile an element of the attention output is in. -/
def tileOf (i : S8x256x256.Idx) : Fin 8 :=
  ⟨4 * ((i 1).val / 128) + (i 2).val / 64, by
    have h1 : (i 1).val < 256 := (i 1).isLt
    have h2 : (i 2).val < 256 := (i 2).isLt
    omega⟩

/-- The attention output of device `c`, all eight blocks. -/
def ctxAll (I : Ins F) (c : Dev nD) : FVec F S8x256x256 .bf16 := fun i =>
  ctxTile I c (i 0) (tileOf i)
    (fun | 0 => (0 : Fin 1) | 1 => (⟨(i 1).val % 128, Nat.mod_lt _ (by decide)⟩ : Fin 128)
         | 2 => (⟨(i 2).val % 64, Nat.mod_lt _ (by decide)⟩ : Fin 64))

/-- Block `s` of the attention output. -/
def ctxBlk (I : Ins F) (c : Dev nD) (s : Fin 8) : Vec F S1x256x256 .bf16 := fun i =>
  ctxAll I c (fun | 0 => s | 1 => i 1 | 2 => i 2)

theorem tAt_off (s j : Fin 8) : (tAt s j).off = ![s.val, 128 * (j.val / 4), 64 * (j.val % 4)] := by
  revert s j; decide +kernel

theorem kAt0_off (s : Fin 8) : (kAt0 s).off = ![0, 0, 256 * s.val] := by revert s; decide +kernel
theorem kAt1_off (s : Fin 8) : (kAt1 s).off = ![1, 0, 256 * s.val] := by revert s; decide +kernel

theorem kv_read (m : Memref sig .tc .vmem S2x128x2048 .bf16) (k : FVec F S2x128x2048 .bf16) (b : Fin 2) (s : Fin 8)
    (f : m.view.ref.ty.Contents (Elt F)) (hf : m.view.read (Elt F) f = k)
    (off : Fin 3 → ℕ) (inb : ∀ a, off a + S1x128x256.size a ≤ S2x128x2048.size a) (ho : off = ![b.val, 0, 256 * s.val]) :
    (m.access (Rect.unit (s := S2x128x2048) off S1x128x256.size inb)).read (Elt F) f = kvBlk k b s := by
  subst ho hf
  funext x
  show m.view.read (Elt F) f ((Rect.unit (s := S2x128x2048) _ S1x128x256.size inb).emb x) = _
  unfold kvBlk
  refine congrArg _ (funext fun a => Fin.ext ?_)
  fin_cases a
  · show b.val + 1 * (x 0).val = b.val
    have hx : (x 0).val < 1 := (x 0).isLt
    omega
  · show 0 + 1 * (x 1).val = (x 1).val
    omega
  · show 256 * s.val + 1 * (x 2).val = 256 * s.val + (x 2).val
    omega

/-- What a load of block `s` of contents that are the attention output there reads. -/
theorem c_read (I : Ins F) (c : Dev nD) (s : Fin 8) :
    (mCtx.access (cRect s)).read (Elt F) (ctxAll I c) = ctxBlk I c s := by
  have ho := k0_off16_eq s
  funext x
  show ctxAll I c ((cRect s).emb x) = ctxAll I c _
  refine congrArg _ (funext fun a => Fin.ext ?_)
  fin_cases a
  · show (k0_off16 s) 0 + 1 * (x 0).val = s.val
    have hx : (x 0).val < 1 := (x 0).isLt
    rw [ho]; simp only [Matrix.cons_val_zero]; omega
  · show (k0_off16 s) 1 + 1 * (x 1).val = (x 1).val
    rw [ho]; simp
  · show (k0_off16 s) 2 + 1 * (x 2).val = (x 2).val
    rw [ho]; simp

theorem t_sub (s j : Fin 8) : (mCtx.access (tRect s j)).set ⊆ blk 256 256 s := by
  rw [show (mCtx.access (tRect s j)).set = (tRect s j).set from View.set_slice_whole _ _]
  intro i hi
  rw [Rect.mem_set_unit] at hi
  have h0 := hi 0
  rw [tAt_off] at h0
  rw [mem_blk]
  refine Fin.ext ?_
  have h1 : s.val ≤ (i 0).val ∧ (i 0).val < s.val + 1 := h0
  omega

/-- Once the first `n` tiles of block `s` are stored, they hold the attention output. -/
def Done (I : Ins F) (c : Dev nD) (s : Fin 8) (n : ℕ) (f : FVec F S8x256x256 .bf16) : Prop :=
  ∀ i, i 0 = s → (tileOf i).val < n → f i = ctxAll I c i

theorem done_step (I : Ins F) (c : Dev nD) (s j : Fin 8) (f : FVec F S8x256x256 .bf16) (h : Done I c s j.val f) :
    Done I c s (j.val + 1) ((mCtx.access (tRect s j)).write (Elt F) f (ctxTile I c s j) Finset.univ) := by
  have ho := tAt_off s j
  intro i hi hn
  by_cases hm : i ∈ (mCtx.access (tRect s j)).set
  · obtain ⟨x, -, rfl⟩ := Finset.mem_map.mp hm
    rw [View.write_emb_of_mem _ _ (Finset.mem_univ x)]
    show ctxTile I c s j x = ctxAll I c ((tRect s j).emb x)
    have e1 : (((tRect s j).emb x) 1).val = 128 * (j.val / 4) + (x 1).val := by
      show (tAt s j).off 1 + 1 * (x 1).val = _
      rw [ho]; simp
    have e2 : (((tRect s j).emb x) 2).val = 64 * (j.val % 4) + (x 2).val := by
      show (tAt s j).off 2 + 1 * (x 2).val = _
      rw [ho]; simp
    have l1 : (x 1).val < 128 := (x 1).isLt
    have l2 : (x 2).val < 64 := (x 2).isLt
    have ht : tileOf ((tRect s j).emb x) = j := Fin.ext (by unfold tileOf; dsimp only; rw [e1, e2]; omega)
    have h0 : ((tRect s j).emb x) 0 = s := hi
    unfold ctxAll
    rw [ht, h0]
    refine congrArg _ (funext fun a => ?_)
    fin_cases a
    · exact Fin.eq_zero (x 0 : Fin 1)
    · refine Fin.ext ?_
      show (x 1).val = (((tRect s j).emb x) 1).val % 128
      rw [e1]; omega
    · refine Fin.ext ?_
      show (x 2).val = (((tRect s j).emb x) 2).val % 64
      rw [e2]; omega
  · rw [View.write_of_not_mem _ _ _ hm]
    refine h i hi ?_
    refine Nat.lt_of_le_of_ne (Nat.lt_succ_iff.mp hn) fun e => hm ?_
    rw [show (mCtx.access (tRect s j)).set = (tRect s j).set from View.set_slice_whole _ _, Rect.mem_set_unit, ho]
    have l1 : (i 1).val < 256 := (i 1).isLt
    have l2 : (i 2).val < 256 := (i 2).isLt
    have e' : 4 * ((i 1).val / 128) + (i 2).val / 64 = j.val := e
    intro a
    fin_cases a
    · show s.val ≤ (i 0).val ∧ (i 0).val < s.val + 1
      rw [hi]; omega
    · show 128 * (j.val / 4) ≤ (i 1).val ∧ (i 1).val < 128 * (j.val / 4) + 128
      omega
    · show 64 * (j.val % 4) ≤ (i 2).val ∧ (i 2).val < 64 * (j.val % 4) + 64
      omega

/-! ## The result -/

/-- The result after the first `n` contributions. -/
def acc (I : Ins F) (c : Dev nD) : ℕ → FVec F S256x512 .f32
  | 0 => fun _ => Scalar.ofBits .f32 0x00000000#32
  | 1 => outFirst (ctxBlk I c (nb c (order 0))) (k0_pay3 (I.wo (nb c (order 0))))
  | n + 2 => outNext (ctxBlk I c (nb c (order (Fin.ofNat 8 (n + 1))))) (k0_pay3 (I.wo (nb c (order (Fin.ofNat 8 (n + 1))))))
      (acc I c (n + 1))

end Cert.KernelIdeal.Own

end
-- ==== Proof.Transfer.lean ====
/- The steps that move blocks: a send, the wait for a block to arrive, the wait for a send to have left, each at any device and
   for any transfer of either lane. -/
module

public import proofs.«01_k».proof.Proof.Geometry

@[expose] public section

noncomputable section

namespace Cert.KernelIdeal.Own

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (I : Ins F) (K : GSem nD τ sig → ℕ) (c : Dev nD)

/-- What send `k` pays with, and its own cell's position. -/
def sendKit (l : Bool) (k : Fin 7) : sProp 𝕄 :=
  iprop(cellInv ER (rd I) (K (sendC l c k)) (sendC l c k)
    ∗ cellInv ER (rd I) (K (recvC l (nb c (tg l k)) (nb c (sl l k)))) (recvC l (nb c (tg l k)) (nb c (sl l k)))
    ∗ dutyTok ER (sendC l c k) 0 0 ∗ reached ER (sendC l c k) 0
    ∗ dutyTok ER (recvC l (nb c (tg l k)) (nb c (sl l k))) 0 0
    ∗ atPos ER (sendC l c k) 0 ∅ 0)

/-- A send in flight. -/
def inFlight (l : Bool) (k : Fin 7) : sProp 𝕄 :=
  iprop(cellInv ER (rd I) (K (sendC l c k)) (sendC l c k) ∗ cred (tallyAt (sendC l c k) () N) ∗ atPos ER (sendC l c k) 0 ∅ 0)

/-- What the wait for the slot at relation `r` needs. -/
def recvKit (l : Bool) (r : Fin 8) : sProp 𝕄 :=
  iprop(cellInv ER (rd I) (K (recvC l c (nb c r))) (recvC l c (nb c r)) ∗ cred (tallyAt (recvC l c (nb c r)) () N)
    ∗ atPos ER (recvC l c (nb c r)) 0 ∅ 0)

/-- The share of its slot that send `k` takes. -/
def sendShare (l : Bool) (k : Fin 7) : sProp 𝕄 :=
  slotPts l c (nb c (sl l k)) (shareOf (nS l (sl l k)) (qi k)) (gath I l)

theorem tgt_ne (l : Bool) (k : Fin 7) : nb c (sl l k) ≠ nb c (tg l k) := by revert l k c; decide
theorem nb_ne (r : Fin 8) (h : r ≠ 0) : nb c r ≠ c := by revert r c; decide

theorem step_send (l : Bool) (k : Fin 7) (pend : List (Bool × Fin 7)) :
    iprop(sendKit I K c l k ∗ landing l k c ∗ sendShare I c l k ∗ ∃ W, owes (c : Thread nD τ) (dues c ((l, k) :: pend)) W)
      ⊢ wp frame (wpE (defs₀ (F := F)) 𝒱₀ c none) Set.univ (Step.run c (.send l k))
        (fun _ => iprop(inFlight I K c l k ∗ ∃ W, owes (c : Thread nD τ) (dues c pend) W)) := by
  unfold sendKit landing sendShare inFlight
  iintro ⟨⟨#HIs, #HIr, HtS, #HrS, HtR, Hat⟩, ⟨⟨%fd, Hd⟩, #HrR⟩, Hsrc, ⟨%W, HO⟩⟩
  unfold slotPts
  iapply (Rounds.wp_send_pointsTo 𝒱₀ ER (rd I) (c : Thread nD τ) none (c' := (nb c (tg l k) : Thread nD τ))
      (src := slotM l (nb c (sl l k))) (dst := slotM l (nb c (sl l k)))
      (sS := .dma (sendS l k)) (sem := .dma (recvS l (nb c (sl l k)))) (q := shareOf (nS l (sl l k)) (qi k)) (fs := gath I l)
      (κ₁ := K (sendC l c k)) (κ₂ := K (recvC l (nb c (tg l k)) (nb c (sl l k))))
      (r₁ := 0) (r₂ := 0) (d₁ := 0) (d₂ := 0) (fd := fd)
      (by rw [duties_send]; exact Finset.mem_singleton_self _)
      (by rw [duties_recv I _ l _ (tgt_ne c l k)]; exact Finset.mem_singleton_self _)
      () () N (N_eq l _) (amount_send I c l k 0) (amount_recv I _ l _ 0) (dues c pend) rfl (W := W)
      (by rw [payload_send]; exact BI.Entails.refl _)
      (by rw [payload_recv]; exact Entails.of_eq (landed l _ _ _ fd (gath I l)))) $$ [Hsrc Hd HO HtS HtR]
  · isplitr; · iexact HIs
    isplitr; · iexact HIr
    isplitl [Hsrc]; · iexact Hsrc
    isplitl [Hd]; · iexact Hd
    isplitl [HO]; · iexact HO
    isplitl [HtS]; · iexact HtS
    isplitr; · iexact HrS
    isplitl [HtR]; · iexact HtR
    iexact HrR
  iintro ⟨HcS, HO⟩
  rw [wp_ret]
  imodintro
  isplitl [HcS Hat]
  · isplitr; · iexact HIs
    isplitl [HcS]; · iexact HcS
    iexact Hat
  iexists W; iexact HO

theorem step_recv (l : Bool) (r : Fin 8) (hr : r ≠ 0) (pend : List (Bool × Fin 7)) (hp : ∀ p ∈ pend, rlv r < rlv (rr p.1 p.2)) :
    iprop(levAts L lv ∗ recvKit I K c l r ∗ ∃ W, owes (c : Thread nD τ) (dues c pend) W)
      ⊢ wp frame (wpE (defs₀ (F := F)) 𝒱₀ c none) Set.univ (Step.run c (.recv l r))
        (fun _ => iprop(semVal (recvC l c (nb c r)) 0 ∗ slotPts l c (nb c r) fullShare (gath I l)
          ∗ ∃ W, owes (c : Thread nD τ) (dues c pend) W)) := by
  unfold recvKit
  iintro ⟨#Hlev, ⟨#HI, Hc, Hat⟩, ⟨%W, HO⟩⟩
  iapply (Rounds.wp_wait_rest_token 𝒱₀ ER (rd I) (c : Thread nD τ) none (κ := K (recvC l c (nb c r)))
      (sm := .dma (recvS l (nb c r)))
      (wpE_waitDma2_eq 𝒱₀ (c : Thread nD τ) none Set.univ) (Set.mem_univ _) () (O := dues c pend) (W := W) (R := 0) (m := 0) (T := ∅)
      ((Nat.zero_add _).trans ((N_eq l _).trans (expect_recv I c l _ (nb_ne c r hr)).symm))) $$ [Hc HO Hat]
  · isplitr; · iexact HI
    isplitl [Hc]; · rw [N_eq]; iexact Hc
    isplitl [HO]; · iexact HO
    isplitr
    · iapply (mayWait c (.dma (recvS l (nb c r))) (rlv r) pend (by rw [lv_recv, nb_self]) hp); iexact Hlev
    iexact Hat
  iintro ⟨HO, Hat, -, Hpay⟩
  ihave Hs := (Entails.of_eq (rest_recv I c l (nb c r) (nb_ne c r hr))) $$ Hpay
  rw [wp_ret]
  imod (Rounds.cell_close ER (rd I) (Set.mem_univ (K (recvC l c (nb c r)))) id (R := 0 + 1) (duties_later I (recvC l c (nb c r)))) $$ [Hat] with Hz
  · isplitr; · iexact HI
    iexact Hat
  imodintro
  isplitl [Hz]; · iexact Hz
  isplitl [Hs]; · iexact Hs
  iexists _; iexact HO

theorem step_left (l : Bool) (k : Fin 7) (pend : List (Bool × Fin 7)) (hp : ∀ p ∈ pend, 0 < rlv (rr p.1 p.2)) :
    iprop(levAts L lv ∗ inFlight I K c l k ∗ ∃ W, owes (c : Thread nD τ) (dues c pend) W)
      ⊢ wp frame (wpE (defs₀ (F := F)) 𝒱₀ c none) Set.univ (Step.run c (.left l k))
        (fun _ => iprop(semVal (sendC l c k) 0 ∗ sendShare I c l k ∗ ∃ W, owes (c : Thread nD τ) (dues c pend) W)) := by
  unfold inFlight sendShare
  iintro ⟨#Hlev, ⟨#HI, Hc, Hat⟩, ⟨%W, HO⟩⟩
  iapply (Rounds.wp_wait_rest_token 𝒱₀ ER (rd I) (c : Thread nD τ) none (κ := K (sendC l c k))
      (sm := .dma (sendS l k))
      (wpE_waitDma2_eq 𝒱₀ (c : Thread nD τ) none Set.univ) (Set.mem_univ _) () (O := dues c pend) (W := W) (R := 0) (m := 0) (T := ∅)
      ((Nat.zero_add _).trans ((N_eq l _).trans (expect_send I c l k).symm))) $$ [Hc HO Hat]
  · isplitr; · iexact HI
    isplitl [Hc]; · rw [N_eq]; iexact Hc
    isplitl [HO]; · iexact HO
    isplitr
    · iapply (mayWait c (.dma (sendS l k)) 0 pend (Nat.le_of_eq (lv_send c l k)) hp); iexact Hlev
    iexact Hat
  iintro ⟨HO, Hat, -, Hpay⟩
  ihave Hs := (Entails.of_eq (rest_send I c l k)) $$ Hpay
  rw [wp_ret]
  imod (Rounds.cell_close ER (rd I) (Set.mem_univ (K (sendC l c k))) id (R := 0 + 1) (duties_later I (sendC l c k))) $$ [Hat] with Hz
  · isplitr; · iexact HI
    iexact Hat
  imodintro
  isplitl [Hz]; · iexact Hz
  isplitl [Hs]; · iexact Hs
  iexists _; iexact HO

end Cert.KernelIdeal.Own

end
-- ==== Proof.Compute.lean ====
/- The steps that compute: the attention of one block of heads and one contribution to the result. -/
module

public import proofs.«01_k».proof.Proof.Transfer

@[expose] public section

noncomputable section

namespace Cert.KernelIdeal.Own

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

variable (I : Ins F) (c : Dev nD)

/-- Device `c`'s buffer `b`, whole, at `f`. -/
abbrev pt (b : Ref sig .tc) (f : b.ty.Contents (Elt F)) : sProp 𝕄 :=
  (Memref.whole b).view.loc (c : Thread nD τ) ↦[Finset.univ]{fullShare} f

/-- Block `s` of the attention output's buffer at `f`. -/
def ctxPts (s : Fin 8) (f : FVec F S8x256x256 .bf16) : sProp 𝕄 :=
  (mCtx.view.loc (c : Thread nD τ)) ↦[blk 256 256 s]{fullShare} f

/-- The activations, the keys and the values, which every block of heads reads. -/
def fixPts : sProp 𝕄 :=
  iprop(pt c cc0_scratch0 (k0_pay1 (I.x c)) ∗ pt c cc0_stg2_0 (I.k c) ∗ pt c cc0_stg3_0 (I.v c))

/-- The result's buffer after `n` contributions. -/
def outPts (n : ℕ) : sProp 𝕄 := iprop(∃ f, ⌜n ≠ 0 → f = acc I c n⌝ ∗ pt c cc0_stg5_0 f)

/-- A whole buffer of 256 by 512, as a rectangle, and one batch's block of keys or values. -/
abbrev wRect : Rect S256x512 := Rect.unit (s := S256x512) ![0, 0] S256x512.size inb_S256x512_S256x512_0_0
abbrev kRect0 (s : Fin 8) : Rect S2x128x2048 := Rect.unit (s := S2x128x2048) (kAt0 s).off S1x128x256.size (kAt0 s).inb
abbrev kRect1 (s : Fin 8) : Rect S2x128x2048 := Rect.unit (s := S2x128x2048) (kAt1 s).off S1x128x256.size (kAt1 s).inb

theorem zero2 : (![0, 0] : Fin 2 → ℕ) = fun _ => 0 := by decide

theorem out_read (f : FVec F S256x512 .f32) : (mOut.access wRect).read (Elt F) f = f :=
  Memref.read_access_unit_zero (Elt F) cc0_stg5_0 zero2 _ f
theorem out_write (f w : FVec F S256x512 .f32) : (mOut.access wRect).write (Elt F) f w Finset.univ = w :=
  Memref.write_access_unit_zero_univ (Elt F) cc0_stg5_0 zero2 _ f w
theorem xb_read (f : FVec F S256x512 .bf16) : (mXb.access wRect).read (Elt F) f = f :=
  Memref.read_access_unit_zero (Elt F) cc0_scratch0 zero2 _ f

theorem slot_wq (s : Fin 8) (q : PosShare TreeShare) (f : FVec F S8x512x256 .bf16) :
    (slotPts false c s q f : sProp 𝕄) = (mWqAll.view.loc (c : Thread nD τ) ↦[blk 512 256 s]{q} f) :=
  congrArg (fun J => (mWqAll.view.loc (c : Thread nD τ) ↦[J]{q} f : sProp 𝕄)) (slot_set_wq s)

theorem slot_wo (s : Fin 8) (q : PosShare TreeShare) (f : FVec F S8x256x512 .bf16) :
    (slotPts true c s q f : sProp 𝕄) = (mWoAll.view.loc (c : Thread nD τ) ↦[blk 256 512 s]{q} f) :=
  congrArg (fun J => (mWoAll.view.loc (c : Thread nD τ) ↦[J]{q} f : sProp 𝕄)) (slot_set_wo s)

/-! ## Tiles -/

/-- Store the tiles of a list. -/
def tiles (ot : Fin 8 → StoreOff S8x256x256 ![1, 128, 64]) (v : Fin 8 → FVec F S1x128x64 .bf16) : List (Fin 8) → P F PUnit
  | [] => pure ⟨⟩
  | [j] => tileStep (ot j) (v j)
  | j :: j' :: l => do
    tileStep (ot j) (v j)
    tiles ot v (j' :: l)

theorem wp_tile (s j : Fin 8) :
    iprop(∃ f, ⌜Done I c s j.val f⌝ ∗ ctxPts c s f)
      ⊢ wp frame (wpE (defs₀ (F := F)) 𝒱₀ c none) Set.univ (tileStep (tAt s j) (ctxTile I c s j))
        (fun _ => iprop(∃ f, ⌜Done I c s (j.val + 1) f⌝ ∗ ctxPts c s f)) := by
  unfold tileStep ctxPts
  simp only [Prog.lift, Prog.bind_op, Prog.bind_ret]
  iintro ⟨%f, %hf, H⟩
  iapply (wp_load_rect 𝒱₀ (c : Thread nD τ) none Set.univ (m := mCtx) (r := tRect s j) (t_sub s j)) $$ H
  iintro H
  iapply (wp_store 𝒱₀ (c : Thread nD τ) none Set.univ (m := mCtx) (r := tRect s j) (Mk := Finset.univ) (t_sub s j)) $$ H
  iintro H
  rw [wp_ret]
  imodintro
  iexists _
  isplitr
  · ipureintro; exact done_step I c s j f hf
  iexact H

theorem wp_tiles (s : Fin 8) : ∀ (n : ℕ) (l : List (Fin 8)), l.map Fin.val = List.range' n l.length → l ≠ [] →
    iprop(∃ f, ⌜Done I c s n f⌝ ∗ ctxPts c s f)
      ⊢ wp frame (wpE (defs₀ (F := F)) 𝒱₀ c none) Set.univ (tiles (tAt s) (ctxTile I c s) l)
        (fun _ => iprop(∃ f, ⌜Done I c s (n + l.length) f⌝ ∗ ctxPts c s f)) := by
  intro n l
  induction l generalizing n with
  | nil => intro _ h; exact absurd rfl h
  | cons j l ih =>
    intro hl _
    have hj : j.val = n := (List.cons.inj hl).1
    subst hj
    cases l with
    | nil => exact wp_tile I c s j
    | cons j' l =>
      have h' := ih (j.val + 1) (List.cons.inj hl).2 (List.cons_ne_nil _ _)
      rw [show j.val + (j :: j' :: l).length = j.val + 1 + (j' :: l).length by simp only [List.length_cons]; omega]
      show _ ⊢ wp _ _ _ (tileStep (tAt s j) (ctxTile I c s j) >>= fun _ => tiles (tAt s) (ctxTile I c s) (j' :: l)) _
      rw [wp_bind]
      exact (wp_tile I c s j).trans (wp_mono _ _ _ fun _ => h')

/-! ## The attention of one block of heads -/

theorem attn_eq (oq : LoadOff S8x512x256 ![1, 512, 256]) (o0 o1 : LoadOff S2x128x2048 ![1, 128, 256])
    (ot : Fin 8 → StoreOff S8x256x256 ![1, 128, 64]) : (attn oq o0 o1 ot : P F PUnit) = (do
      let x ← loadW mXb
      let w ← loadQ oq
      let k0 ← loadKV mK o0
      let k1 ← loadKV mK o1
      let v0 ← loadKV mV o0
      let v1 ← loadKV mV o1
      tiles ot (attnTile maskVal x w k0 k1 v0 v1) [0, 1, 2, 3, 4, 5, 6, 7]) := rfl

theorem step_attn (r : Fin 8) (q : PosShare TreeShare) :
    iprop(fixPts I c ∗ slotPts false c (nb c r) q (gath I false) ∗ ∃ f, ctxPts c (nb c r) f)
      ⊢ wp frame (wpE (defs₀ (F := F)) 𝒱₀ c none) Set.univ (Step.run c (.attn r))
        (fun _ => iprop(fixPts I c ∗ slotPts false c (nb c r) q (gath I false) ∗ ctxPts c (nb c r) (ctxAll I c))) := by
  show _ ⊢ wp _ _ _ (attn (qAt (nb c r)) (kAt0 (nb c r)) (kAt1 (nb c r)) (tAt (nb c r))) _
  generalize nb c r = s
  rw [attn_eq]
  unfold loadW loadQ loadKV fixPts gath
  simp only [Prog.lift, Prog.bind_op, Prog.bind_ret]
  rw [slot_wq]
  iintro ⟨⟨Hx, Hk, Hv⟩, Hq, Hc⟩
  iapply (wp_load_rect 𝒱₀ (c : Thread nD τ) none Set.univ (m := mXb) (r := wRect) (Finset.subset_univ _)) $$ Hx
  iintro Hx
  iapply (wp_load_rect 𝒱₀ (c : Thread nD τ) none Set.univ (m := mWqAll) (r := qRect s) (q_set s).subset) $$ Hq
  iintro Hq
  iapply (wp_load_rect 𝒱₀ (c : Thread nD τ) none Set.univ (m := mK) (r := kRect0 s) (Finset.subset_univ _)) $$ Hk
  iintro Hk
  iapply (wp_load_rect 𝒱₀ (c : Thread nD τ) none Set.univ (m := mK) (r := kRect1 s) (Finset.subset_univ _)) $$ Hk
  iintro Hk
  iapply (wp_load_rect 𝒱₀ (c : Thread nD τ) none Set.univ (m := mV) (r := kRect0 s) (Finset.subset_univ _)) $$ Hv
  iintro Hv
  iapply (wp_load_rect 𝒱₀ (c : Thread nD τ) none Set.univ (m := mV) (r := kRect1 s) (Finset.subset_univ _)) $$ Hv
  iintro Hv
  rw [xb_read, q_read,
    kv_read mK (I.k c) 0 s (I.k c) rfl _ _ (kAt0_off s), kv_read mK (I.k c) 1 s (I.k c) rfl _ _ (kAt1_off s),
    kv_read mV (I.v c) 0 s (I.v c) rfl _ _ (kAt0_off s), kv_read mV (I.v c) 1 s (I.v c) rfl _ _ (kAt1_off s)]
  iapply (wp_wand frame (wpE (defs₀ (F := F)) 𝒱₀ c none) Set.univ) $$ [Hc]
  · iapply (wp_tiles I c s 0 [0, 1, 2, 3, 4, 5, 6, 7] rfl (List.cons_ne_nil _ _))
    icases Hc with ⟨%f, Hc⟩
    iexists f
    isplitr
    · ipureintro; exact fun i _ h => absurd h (Nat.not_lt_zero _)
    iexact Hc
  iintro %u ⟨%f, %hf, Hc⟩
  isplitl [Hx Hk Hv]
  · isplitl [Hx]; · iexact Hx
    isplitl [Hk]; · iexact Hk
    iexact Hv
  isplitl [Hq]; · iexact Hq
  rw [show ctxPts c s (ctxAll I c) = ctxPts c s f from
    pointsTo_congr fun i hi => (hf i (mem_blk.mp hi) (tileOf i).isLt).symm]
  iexact Hc

/-! ## One contribution to the result -/

theorem wp_contribFirst (s : Fin 8) (q : PosShare TreeShare) :
    iprop(ctxPts c s (ctxAll I c) ∗ slotPts true c s q (gath I true) ∗ ∃ f, pt c cc0_stg5_0 f)
      ⊢ wp frame (wpE (defs₀ (F := F)) 𝒱₀ c none) Set.univ (contribFirst (cAt s) (oAt s))
        (fun _ => iprop(ctxPts c s (ctxAll I c) ∗ slotPts true c s q (gath I true)
          ∗ pt c cc0_stg5_0 (outFirst (ctxBlk I c s) (k0_pay3 (I.wo s))))) := by
  unfold contribFirst loadC loadO loadW storeOut gath ctxPts
  simp only [Prog.lift, Prog.bind_op, Prog.bind_ret]
  rw [slot_wo]
  iintro ⟨Hc, Hw, ⟨%f, Ho⟩⟩
  iapply (wp_load_rect 𝒱₀ (c : Thread nD τ) none Set.univ (m := mCtx) (r := cRect s) (c_set s).subset) $$ Hc
  iintro Hc
  iapply (wp_load_rect 𝒱₀ (c : Thread nD τ) none Set.univ (m := mWoAll) (r := oRect s) (o_set s).subset) $$ Hw
  iintro Hw
  iapply (wp_load_rect 𝒱₀ (c : Thread nD τ) none Set.univ (m := mOut) (r := wRect) (Finset.subset_univ _)) $$ Ho
  iintro Ho
  iapply (wp_store 𝒱₀ (c : Thread nD τ) none Set.univ (m := mOut) (r := wRect) (Mk := Finset.univ) (Finset.subset_univ _)) $$ Ho
  iintro Ho
  rw [wp_ret, c_read, o_read, out_write]
  imodintro
  isplitl [Hc]; · iexact Hc
  isplitl [Hw]; · iexact Hw
  iexact Ho

theorem wp_contribNext (s : Fin 8) (q : PosShare TreeShare) (f : FVec F S256x512 .f32) :
    iprop(ctxPts c s (ctxAll I c) ∗ slotPts true c s q (gath I true) ∗ pt c cc0_stg5_0 f)
      ⊢ wp frame (wpE (defs₀ (F := F)) 𝒱₀ c none) Set.univ (contribNext (cAt s) (oAt s))
        (fun _ => iprop(ctxPts c s (ctxAll I c) ∗ slotPts true c s q (gath I true)
          ∗ pt c cc0_stg5_0 (outNext (ctxBlk I c s) (k0_pay3 (I.wo s)) f))) := by
  unfold contribNext loadC loadO loadW storeOut gath ctxPts
  simp only [Prog.lift, Prog.bind_op, Prog.bind_ret]
  rw [slot_wo]
  iintro ⟨Hc, Hw, Ho⟩
  iapply (wp_load_rect 𝒱₀ (c : Thread nD τ) none Set.univ (m := mCtx) (r := cRect s) (c_set s).subset) $$ Hc
  iintro Hc
  iapply (wp_load_rect 𝒱₀ (c : Thread nD τ) none Set.univ (m := mWoAll) (r := oRect s) (o_set s).subset) $$ Hw
  iintro Hw
  iapply (wp_load_rect 𝒱₀ (c : Thread nD τ) none Set.univ (m := mOut) (r := wRect) (Finset.subset_univ _)) $$ Ho
  iintro Ho
  iapply (wp_load_rect 𝒱₀ (c : Thread nD τ) none Set.univ (m := mOut) (r := wRect) (Finset.subset_univ _)) $$ Ho
  iintro Ho
  iapply (wp_store 𝒱₀ (c : Thread nD τ) none Set.univ (m := mOut) (r := wRect) (Mk := Finset.univ) (Finset.subset_univ _)) $$ Ho
  iintro Ho
  rw [wp_ret, c_read, o_read, out_read, out_write]
  imodintro
  isplitl [Hc]; · iexact Hc
  isplitl [Hw]; · iexact Hw
  iexact Ho

theorem acc_next (n : ℕ) : acc I c (n + 1 + 1)
    = outNext (ctxBlk I c (nb c (order (Fin.ofNat 8 (n + 1))))) (k0_pay3 (I.wo (nb c (order (Fin.ofNat 8 (n + 1)))))) (acc I c (n + 1)) := rfl

theorem step_contrib (i : Fin 8) (q : PosShare TreeShare) :
    iprop(ctxPts c (nb c (order i)) (ctxAll I c) ∗ slotPts true c (nb c (order i)) q (gath I true) ∗ outPts I c i.val)
      ⊢ wp frame (wpE (defs₀ (F := F)) 𝒱₀ c none) Set.univ (Step.run c (.contrib i))
        (fun _ => iprop(ctxPts c (nb c (order i)) (ctxAll I c) ∗ slotPts true c (nb c (order i)) q (gath I true)
          ∗ outPts I c (i.val + 1))) := by
  show _ ⊢ wp _ _ _ (if i = 0 then contribFirst (cAt (nb c (order i))) (oAt (nb c (order i)))
      else contribNext (cAt (nb c (order i))) (oAt (nb c (order i)))) _
  unfold outPts
  obtain ⟨n, hn⟩ := i
  cases n with
  | zero =>
    rw [if_pos (show (⟨0, hn⟩ : Fin 8) = 0 from rfl)]
    refine BIBase.Entails.trans ?_ ((wp_contribFirst I c (nb c (order 0)) q).trans (wp_mono _ _ _ fun _ => ?_))
    · iintro ⟨Hc, Hw, ⟨%f, -, Ho⟩⟩
      isplitl [Hc]; · iexact Hc
      isplitl [Hw]; · iexact Hw
      iexists f; iexact Ho
    · iintro ⟨Hc, Hw, Ho⟩
      isplitl [Hc]; · iexact Hc
      isplitl [Hw]; · iexact Hw
      iexists (outFirst (ctxBlk I c (nb c (order 0))) (k0_pay3 (I.wo (nb c (order 0)))))
      isplitr
      · ipureintro; exact fun _ => rfl
      iexact Ho
  | succ n =>
    rw [if_neg (fun h : (⟨n + 1, hn⟩ : Fin 8) = 0 => Nat.succ_ne_zero n (congrArg Fin.val h))]
    have hm : (⟨n + 1, hn⟩ : Fin 8) = Fin.ofNat 8 (n + 1) := Fin.ext (Nat.mod_eq_of_lt hn).symm
    refine BIBase.Entails.trans ?_ ((wp_contribNext I c (nb c (order ⟨n + 1, hn⟩)) q (acc I c (n + 1))).trans (wp_mono _ _ _ fun _ => ?_))
    · iintro ⟨Hc, Hw, ⟨%f, %hf, Ho⟩⟩
      isplitl [Hc]; · iexact Hc
      isplitl [Hw]; · iexact Hw
      rw [← hf (Nat.succ_ne_zero n)]
      iexact Ho
    · iintro ⟨Hc, Hw, Ho⟩
      isplitl [Hc]; · iexact Hc
      isplitl [Hw]; · iexact Hw
      iexists (outNext (ctxBlk I c (nb c (order ⟨n + 1, hn⟩))) (k0_pay3 (I.wo (nb c (order ⟨n + 1, hn⟩)))) (acc I c (n + 1)))
      isplitr
      · ipureintro; exact fun _ => by rw [acc_next, hm]
      iexact Ho

end Cert.KernelIdeal.Own

end
-- ==== Proof.Machine.lean ====
/- The steps as moves on a set of held resources: each step takes some and leaves others. One run over the list, decided,
   shows that every step finds what it needs; the resources' meaning carries it to the program. -/
module

public import proofs.«01_k».proof.Proof.Compute

@[expose] public section

noncomputable section

namespace Cert.KernelIdeal.Own

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

/-- What a device can hold while its body runs. -/
inductive Atom where
  /-- What a send pays with; where it lands; the send in flight; its counter back. -/
  | kit (l : Bool) (k : Fin 7)
  | land (l : Bool) (k : Fin 7)
  | sent (l : Bool) (k : Fin 7)
  | sendZero (l : Bool) (k : Fin 7)
  /-- What the wait for a slot needs; its counter back; one share of the slot at the gathered contents. -/
  | await (l : Bool) (r : Fin 8)
  | recvZero (l : Bool) (r : Fin 8)
  | share (l : Bool) (r : Fin 8) (i : Fin 4)
  /-- A block of the attention output, before and after it is computed. -/
  | raw (r : Fin 8)
  | att (r : Fin 8)
  /-- Activations, keys and values; the result after some contributions. -/
  | fix
  | out (n : ℕ)
  deriving DecidableEq

variable (I : Ins F) (K : GSem nD τ sig → ℕ) (c : Dev nD)

/-- What holding an atom means. -/
def den : Atom → sProp 𝕄
  | .kit l k => sendKit I K c l k
  | .land l k => landing l k c
  | .sent l k => inFlight I K c l k
  | .sendZero l k => semVal (sendC l c k) 0
  | .await l r => recvKit I K c l r
  | .recvZero l r => semVal (recvC l c (nb c r)) 0
  | .share l r i => slotPts l c (nb c r) (shareOf (nS l r) i) (gath I l)
  | .raw r => iprop(∃ f, ctxPts c (nb c r) f)
  | .att r => ctxPts c (nb c r) (ctxAll I c)
  | .fix => fixPts I c
  | .out n => outPts I c n

/-- The shares of a slot, as atoms. -/
def shares (l : Bool) (r : Fin 8) : Finset Atom :=
  (pieces (nS l r)).map ⟨Atom.share l r, fun _ _ h => (Atom.share.inj h).2.2⟩

theorem den_shares (l : Bool) (r : Fin 8) :
    bigSep (shares l r) (den I K c) = slotPts l c (nb c r) fullShare (gath I l) := by
  unfold shares
  rw [bigSep_map, slot_pieces l c (nb c r) (nS l r)]
  rfl

/-- What a step takes. -/
def Step.need : Step → List Atom
  | .send l k => [.kit l k, .land l k, .share l (sl l k) (qi k)]
  | .recv l r => [.await l r]
  | .left l k => [.sent l k]
  | .attn r => [.fix, .share false r 0, .raw r]
  | .contrib i => [.att (order i), .share true (order i) 0, .out i.val]

/-- What a step leaves. -/
def Step.give : Step → Finset Atom
  | .send l k => {.sent l k}
  | .recv l r => insert (.recvZero l r) (shares l r)
  | .left l k => [.sendZero l k, .share l (sl l k) (qi k)].toFinset
  | .attn r => [.fix, .share false r 0, .att r].toFinset
  | .contrib i => [.att (order i), .share true (order i) 0, .out (i.val + 1)].toFinset

/-- When a step may run, by the sends still to come. -/
def Step.ok : Step → List (Bool × Fin 7) → Bool
  | .send l k, pend => pend.head? = some (l, k)
  | .recv _ r, pend => r ≠ 0 ∧ ∀ p ∈ pend, rlv r < rlv (rr p.1 p.2)
  | .left _ _, pend => ∀ p ∈ pend, 0 < rlv (rr p.1 p.2)
  | .attn _, _ => true
  | .contrib _, _ => true

/-- The sends still to come after a step. -/
def Step.next : Step → List (Bool × Fin 7) → List (Bool × Fin 7)
  | .send _ _, pend => pend.tail
  | _, pend => pend

/-- The device owes the sends still to come. -/
def Owing (pend : List (Bool × Fin 7)) : sProp 𝕄 := iprop(∃ W, owes (c : Thread nD τ) (dues c pend) W)

/-- A step beside what it does not touch. -/
theorem wp_beside {α : Type} {p : P F α} {A R : sProp 𝕄} {Q : α → sProp 𝕄}
    (h : A ⊢ wp frame (wpE (defs₀ (F := F)) 𝒱₀ (c : Thread nD τ) none) Set.univ p Q) :
    iprop(A ∗ R) ⊢ wp frame (wpE (defs₀ (F := F)) 𝒱₀ (c : Thread nD τ) none) Set.univ p (fun a => iprop(Q a ∗ R)) :=
  (sep_mono_l h).trans (wp_frame_r _ _ _)

theorem step_sound (s : Step) (pend : List (Bool × Fin 7)) (h : s.ok pend = true) :
    iprop(levAts L lv ∗ bigSepL s.need (den I K c) ∗ Owing c pend)
      ⊢ wp frame (wpE (defs₀ (F := F)) 𝒱₀ c none) Set.univ (s.run c)
        (fun _ => iprop(bigSep s.give (den I K c) ∗ Owing c (s.next pend))) := by
  unfold Owing
  cases s with
  | send l k =>
    obtain ⟨pend', rfl⟩ : ∃ p', pend = (l, k) :: p' := by
      cases pend with
      | nil => exact absurd h (by simp [Step.ok])
      | cons p p' => exact ⟨p', by have := of_decide_eq_true h; rw [List.head?_cons] at this; rw [Option.some.inj this]⟩
    refine BIBase.Entails.trans ?_ ((step_send I K c l k pend').trans (wp_mono _ _ _ fun _ => ?_))
    · show iprop(levAts L lv ∗ (sendKit I K c l k ∗ landing l k c ∗ sendShare I c l k)
        ∗ ∃ W, owes (c : Thread nD τ) (dues c ((l, k) :: pend')) W) ⊢ _
      iintro ⟨-, ⟨Hk, Hl, Hs⟩, HO⟩
      isplitl [Hk]; · iexact Hk
      isplitl [Hl]; · iexact Hl
      isplitl [Hs]; · iexact Hs
      iexact HO
    · show _ ⊢ iprop(bigSep {Atom.sent l k} (den I K c) ∗ _)
      rw [bigSep_singleton]
      exact BI.Entails.refl _
  | recv l r =>
    obtain ⟨hr, hp⟩ := of_decide_eq_true h
    refine (step_recv I K c l r hr pend hp).trans (wp_mono _ _ _ fun _ => ?_)
    show _ ⊢ iprop(bigSep (insert (Atom.recvZero l r) (shares l r)) (den I K c) ∗ _)
    rw [bigSep_insert (by unfold shares; simp), den_shares]
    show _ ⊢ iprop((semVal (recvC l c (nb c r)) 0 ∗ _) ∗ _)
    iintro ⟨Hz, Hs, HO⟩
    isplitl [Hz Hs]
    · isplitl [Hz]; · iexact Hz
      iexact Hs
    iexact HO
  | left l k =>
    refine (step_left I K c l k pend (of_decide_eq_true h)).trans (wp_mono _ _ _ fun _ => ?_)
    show _ ⊢ iprop(bigSep [Atom.sendZero l k, .share l (sl l k) (qi k)].toFinset (den I K c) ∗ _)
    rw [bigSep_eq_bigSepL _ (by simp)]
    show _ ⊢ iprop((semVal (sendC l c k) 0 ∗ sendShare I c l k) ∗ _)
    iintro ⟨Hz, Hs, HO⟩
    isplitl [Hz Hs]
    · isplitl [Hz]; · iexact Hz
      iexact Hs
    iexact HO
  | attn r =>
    refine BIBase.Entails.trans ?_ ((wp_beside c (step_attn I c r (shareOf (nS false r) 0))
      (R := iprop(∃ W, owes (c : Thread nD τ) (dues c pend) W))).trans (wp_mono _ _ _ fun _ => ?_))
    · show iprop(levAts L lv ∗ (fixPts I c ∗ slotPts false c (nb c r) (shareOf (nS false r) 0) (gath I false)
        ∗ ∃ f, ctxPts c (nb c r) f) ∗ _) ⊢ _
      iintro ⟨-, H, HO⟩
      isplitl [H]; · iexact H
      iexact HO
    · show _ ⊢ iprop(bigSep [Atom.fix, .share false r 0, .att r].toFinset (den I K c) ∗ _)
      rw [bigSep_eq_bigSepL _ (by simp)]
      exact BI.Entails.refl _
  | contrib i =>
    refine BIBase.Entails.trans ?_ ((wp_beside c (step_contrib I c i (shareOf (nS true (order i)) 0))
      (R := iprop(∃ W, owes (c : Thread nD τ) (dues c pend) W))).trans (wp_mono _ _ _ fun _ => ?_))
    · show iprop(levAts L lv ∗ (ctxPts c (nb c (order i)) (ctxAll I c)
        ∗ slotPts true c (nb c (order i)) (shareOf (nS true (order i)) 0) (gath I true) ∗ outPts I c i.val) ∗ _) ⊢ _
      iintro ⟨-, H, HO⟩
      isplitl [H]; · iexact H
      iexact HO
    · show _ ⊢ iprop(bigSep [Atom.att (order i), .share true (order i) 0, .out (i.val + 1)].toFinset (den I K c) ∗ _)
      rw [bigSep_eq_bigSepL _ (by simp)]
      exact BI.Entails.refl _

/-- What is held and what is still to be sent. -/
abbrev State := Finset Atom × List (Bool × Fin 7)

/-- Run one step on the state, if it may run and finds what it needs. -/
def Step.exec (s : Step) (st : State) : Option State :=
  if s.ok st.2 ∧ s.need.Nodup ∧ s.need.toFinset ⊆ st.1 ∧ Disjoint s.give (st.1 \ s.need.toFinset) then
    some (s.give ∪ (st.1 \ s.need.toFinset), s.next st.2)
  else none

/-- Run a list of steps on the state. -/
def execAll : List Step → State → Option State
  | [], st => some st
  | s :: l, st => (s.exec st).bind (execAll l)

/-- The meaning of a state. -/
def St (st : State) : sProp 𝕄 := iprop(bigSep st.1 (den I K c) ∗ Owing c st.2)

theorem exec_sound (s : Step) (st st' : State) (h : s.exec st = some st') :
    iprop(levAts L lv ∗ St I K c st)
      ⊢ wp frame (wpE (defs₀ (F := F)) 𝒱₀ c none) Set.univ (s.run c) (fun _ => iprop(levAts L lv ∗ St I K c st')) := by
  unfold Step.exec at h
  split at h
  case isFalse => exact absurd h (by simp)
  case isTrue hc =>
    obtain ⟨hok, hnd, hsub, hdis⟩ := hc
    obtain rfl := Option.some.inj h
    unfold St
    have hsplit : bigSep st.1 (den I K c) ⊢ iprop(bigSepL s.need (den I K c) ∗ bigSep (st.1 \ s.need.toFinset) (den I K c)) := by
      rw [bigSep_sdiff_split hsub, bigSep_eq_bigSepL _ hnd]
      exact BI.Entails.refl _
    rw [bigSep_union hdis]
    refine BIBase.Entails.trans ?_ ((wp_beside c (step_sound I K c s st.2 hok)
      (R := iprop(levAts L lv ∗ bigSep (st.1 \ s.need.toFinset) (den I K c)))).trans (wp_mono _ _ _ fun _ => ?_))
    · iintro ⟨#Hlev, HS, HO⟩
      ihave HS' := hsplit $$ HS
      icases HS' with ⟨HN, HR⟩
      isplitl [HN HO]
      · isplitr; · iexact Hlev
        isplitl [HN]; · iexact HN
        iexact HO
      isplitr; · iexact Hlev
      iexact HR
    · show _ ⊢ iprop(levAts L lv ∗ (bigSep s.give (den I K c) ∗ bigSep (st.1 \ s.need.toFinset) (den I K c)) ∗ Owing c (s.next st.2))
      iintro ⟨⟨HG, HO⟩, #Hlev, HR⟩
      isplitr; · iexact Hlev
      isplitl [HG HR]
      · isplitl [HG]; · iexact HG
        iexact HR
      iexact HO

theorem execAll_sound (l : List Step) : ∀ st st', execAll l st = some st' → l ≠ [] →
    iprop(levAts L lv ∗ St I K c st)
      ⊢ wp frame (wpE (defs₀ (F := F)) 𝒱₀ c none) Set.univ (runAll c l) (fun _ => iprop(levAts L lv ∗ St I K c st')) := by
  induction l with
  | nil => exact fun _ _ _ h => absurd rfl h
  | cons s l ih =>
    intro st st' h _
    obtain ⟨st₁, h₁, h₂⟩ := Option.bind_eq_some_iff.mp h
    cases l with
    | nil =>
      obtain rfl : st₁ = st' := Option.some.inj h₂
      exact exec_sound I K c s st st₁ h₁
    | cons s' l =>
      show _ ⊢ wp _ _ _ (s.run c >>= fun _ => runAll c (s' :: l)) _
      rw [wp_bind]
      exact (exec_sound I K c s st st₁ h₁).trans (wp_mono _ _ _ fun _ => ih st₁ st' h₂ (List.cons_ne_nil _ _))

/-! ## The run -/

/-- All sends of both lanes, as atoms. -/
def perSend (A : Bool → Fin 7 → Atom) : Finset Atom := Finset.univ.image fun p : Bool × Fin 7 => A p.1 p.2
/-- All slots of both lanes. -/
def perSlot (A : Bool → Fin 8 → Atom) (rs : Finset (Fin 8)) : Finset Atom :=
  (Finset.univ ×ˢ rs).image fun p : Bool × Fin 8 => A p.1 p.2

/-- Past the barrier and the staging. -/
def st0 : State :=
  (perSend .kit ∪ perSend .land ∪ perSlot .await {0}ᶜ ∪ (shares false 0 ∪ shares true 0) ∪ Finset.univ.image Atom.raw
    ∪ {.fix, .out 0}, sends)

/-- At the end. -/
def stEnd : Finset Atom :=
  perSend .sendZero ∪ perSlot .recvZero {0}ᶜ ∪ Finset.univ.biUnion (fun p : Bool × Fin 8 => shares p.1 p.2)
    ∪ Finset.univ.image Atom.att ∪ {.fix, .out 8}

theorem run_ok : execAll steps st0 = some (stEnd, []) := by decide +kernel

end Cert.KernelIdeal.Own

end
-- ==== Proof.Barrier.lean ====
/- The start of the body: the barrier, at which neighbours give each other the slots they will fill, and the staging of the
   device's own activations and weights. -/
module

public import proofs.«01_k».proof.Proof.Machine

@[expose] public section

noncomputable section

namespace Cert.KernelIdeal.Own

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

variable (I : Ins F) (K : GSem nD τ sig → ℕ) (c : Dev nD)

/-- The device's own slot that the send `(l, k)` of a neighbour fills, and that its receive cell is open. -/
def lend (l : Bool) (k : Fin 7) : sProp 𝕄 :=
  iprop((∃ f, slotPts l c (nb c (rr l k)) fullShare f) ∗ reached ER (recvC l c (nb c (rr l k))) 0)

theorem landing_lend (l : Bool) (k : Fin 7) (j : Fin 3) (h : tg l k = nbr j) :
    (landing l k (nb c (nbr j)) : sProp 𝕄) = lend c l k := by
  unfold landing lend
  rw [← h, nb_nb, nb_tg_sl]

theorem barPay_lend (j : Fin 3) : (barPay (nb c (nbr j)) j : sProp 𝕄) = bigSep (sendsTo j) fun p => lend c p.1 p.2 :=
  bigSep_congr fun p hp => landing_lend c p.1 p.2 j (Finset.mem_filter.mp hp).2

theorem lends_split : (bigSep Finset.univ fun p : Bool × Fin 7 => (lend c p.1 p.2 : sProp 𝕄))
    = iprop(barPay (nb c 1) 0 ∗ barPay (nb c 3) 1 ∗ barPay (nb c 4) 2) := by
  rw [show (Finset.univ : Finset (Bool × Fin 7)) = Finset.univ.biUnion sendsTo by decide, bigSep_biUnion_eq _ _ _ (by decide)]
  refine (bigSep_congr fun j _ => (barPay_lend c j).symm).trans ?_
  exact bigSep_eq_bigSepL_of_eq (S := Finset.univ) [0, 1, 2] (by decide) (by decide) _

/-- What the barrier needs of the cells: its own, and the token and the cell of each neighbour's. -/
def barNb (j : Fin 3) : sProp 𝕄 :=
  iprop(cellInv ER (rd I) (K (barC (nb c (nbr j)))) (barC (nb c (nbr j))) ∗ dutyTok ER (barC (nb c (nbr j))) 0 j
    ∗ reached ER (barC (nb c (nbr j))) 0)
def barKit : sProp 𝕄 :=
  iprop(cellInv ER (rd I) (K (barC c)) (barC c) ∗ cred (tallyAt (barC c) () 3) ∗ atPos ER (barC c) 0 ∅ 0
    ∗ barNb I K c 0 ∗ barNb I K c 1 ∗ barNb I K c 2)

theorem step_barrier :
    iprop(levAts L lv ∗ barKit I K c ∗ (bigSep Finset.univ fun p : Bool × Fin 7 => lend c p.1 p.2)
        ∗ ∃ W, owes (c : Thread nD τ) (O₀ c) W)
      ⊢ wp frame (wpE (defs₀ (F := F)) 𝒱₀ c none) Set.univ (barrierR c)
        (fun _ => iprop(semVal (barC c) 0 ∗ (bigSep Finset.univ fun p : Bool × Fin 7 => landing p.1 p.2 c)
          ∗ ∃ W, owes (c : Thread nD τ) (dues c sends) W)) := by
  rw [lends_split]
  unfold barKit barNb barrierR
  simp only [semSignalWord, semWaitWord, Prog.lift, Prog.bind_op, Prog.bind_ret, Prog.pure_eq_ret]
  iintro ⟨#Hlev, ⟨#HI, Hc, Hat, ⟨#HI0, Ht0, #Hr0⟩, ⟨#HI1, Ht1, #Hr1⟩, ⟨#HI2, Ht2, #Hr2⟩⟩, ⟨Hp0, Hp1, Hp2⟩, ⟨%W, HO⟩⟩
  iapply (Rounds.wp_signal 𝒱₀ ER (rd I) (c : Thread nD τ) none (dst := (nb c (nbr 0) : Thread nD τ)) (sem := barS) (r := 0) (d := 0)
    (κ := K (barC (nb c (nbr 0)))) (by rw [duties_bar]; exact Finset.mem_univ _) (amount_bar I _ 0) ()
    (dues c sends + dueBar c 2 + dueBar c 1) rfl) $$ [HO Ht0 Hp0]
  · isplitr; · iexact HI0
    isplitl [HO]; · iexact HO
    isplitl [Ht0]; · iexact Ht0
    isplitl [Hp0]; · rw [payload_bar]; iexact Hp0
    iexact Hr0
  iintro HO
  iapply (Rounds.wp_signal 𝒱₀ ER (rd I) (c : Thread nD τ) none (dst := (nb c (nbr 1) : Thread nD τ)) (sem := barS) (r := 0) (d := 1)
    (κ := K (barC (nb c (nbr 1)))) (by rw [duties_bar]; exact Finset.mem_univ _) (amount_bar I _ 1) ()
    (dues c sends + dueBar c 2) rfl) $$ [HO Ht1 Hp1]
  · isplitr; · iexact HI1
    isplitl [HO]; · iexact HO
    isplitl [Ht1]; · iexact Ht1
    isplitl [Hp1]; · rw [payload_bar]; iexact Hp1
    iexact Hr1
  iintro HO
  iapply (Rounds.wp_signal 𝒱₀ ER (rd I) (c : Thread nD τ) none (dst := (nb c (nbr 2) : Thread nD τ)) (sem := barS) (r := 0) (d := 2)
    (κ := K (barC (nb c (nbr 2)))) (by rw [duties_bar]; exact Finset.mem_univ _) (amount_bar I _ 2) ()
    (dues c sends) rfl) $$ [HO Ht2 Hp2]
  · isplitr; · iexact HI2
    isplitl [HO]; · iexact HO
    isplitl [Ht2]; · iexact Ht2
    isplitl [Hp2]; · rw [payload_bar]; iexact Hp2
    iexact Hr2
  iintro HO
  iapply (Rounds.wp_wait_rest_token 𝒱₀ ER (rd I) (c : Thread nD τ) none (κ := K (barC c))
      (wpE_semWait_eq 𝒱₀ (c : Thread nD τ) none Set.univ) (Set.mem_univ _) () (O := dues c sends) (W := W) (R := 0) (m := 0) (T := ∅)
      (expect_bar I c).symm) $$ [Hc HO Hat]
  · isplitr; · iexact HI
    isplitl [Hc]; · iexact Hc
    isplitl [HO]; · iexact HO
    isplitr
    · iapply (mayWait c (.reg barS) 1 sends (Nat.le_refl 1) (by decide)); iexact Hlev
    iexact Hat
  iintro ⟨HO, Hat, -, Hpay⟩
  ihave Hl := (Entails.of_eq (rest_bar I c)) $$ Hpay
  rw [wp_ret]
  imod (Rounds.cell_close ER (rd I) (Set.mem_univ (K (barC c))) id (R := 0 + 1) (duties_later I (barC c))) $$ [Hat] with Hz
  · isplitr; · iexact HI
    iexact Hat
  imodintro
  isplitl [Hz]; · iexact Hz
  isplitl [Hl]; · iexact Hl
  iexists _; iexact HO

/-! ## Staging -/

theorem x_read (f : FVec F S256x512 .f32) : (mX.access wRect).read (Elt F) f = f :=
  Memref.read_access_unit_zero (Elt F) cc0_stg0_0 zero2 _ f
theorem wo_read (f : FVec F S256x512 .f32) : (mWo.access wRect).read (Elt F) f = f :=
  Memref.read_access_unit_zero (Elt F) cc0_stg4_0 zero2 _ f
theorem xb_write (f w : FVec F S256x512 .bf16) : (mXb.access wRect).write (Elt F) f w Finset.univ = w :=
  Memref.write_access_unit_zero_univ (Elt F) cc0_scratch0 zero2 _ f w
abbrev uRect : Rect S512x256 := Rect.unit (s := S512x256) ![0, 0] S512x256.size inb_S512x256_S512x256_0_0
theorem wq_read (f : FVec F S512x256 .f32) : (mWq.access uRect).read (Elt F) f = f :=
  Memref.read_access_unit_zero (Elt F) cc0_stg1_0 zero2 _ f

theorem pts_congr {ℓ : Loc nD τ sig} {J : Finset (Idx ℓ)} {q : PosShare TreeShare} (f g : Buf (Elt F) ℓ)
    (h : ∀ i ∈ J, f i = g i) : (ℓ ↦[J]{q} f : sProp 𝕄) = (ℓ ↦[J]{q} g) := pointsTo_congr h

/-- Device `c`'s block `s` of the query weights' buffer; of the output weights'. -/
def wqPts (s : Fin 8) (f : FVec F S8x512x256 .bf16) : sProp 𝕄 :=
  (mWqAll.view.loc (c : Thread nD τ)) ↦[blk 512 256 s]{fullShare} f
def woPts (s : Fin 8) (f : FVec F S8x256x512 .bf16) : sProp 𝕄 :=
  (mWoAll.view.loc (c : Thread nD τ)) ↦[blk 256 512 s]{fullShare} f

/-- What staging starts from: the operands, and the scratch the own blocks go to. -/
def stagePre : sProp 𝕄 :=
  iprop(pt c cc0_stg0_0 (I.x c) ∗ pt c cc0_stg1_0 (I.wq c) ∗ pt c cc0_stg4_0 (I.wo c)
    ∗ (∃ f, pt c cc0_scratch0 f) ∗ (∃ f, wqPts c c f) ∗ (∃ f, woPts c c f))

/-- What it leaves. -/
def stagePost : sProp 𝕄 :=
  iprop(pt c cc0_stg0_0 (I.x c) ∗ pt c cc0_stg1_0 (I.wq c) ∗ pt c cc0_stg4_0 (I.wo c)
    ∗ pt c cc0_scratch0 (k0_pay1 (I.x c)) ∗ slotPts false c c fullShare (gath I false) ∗ slotPts true c c fullShare (gath I true))

theorem wqPts_congr (s : Fin 8) (f g : FVec F S8x512x256 .bf16) (h : ∀ i ∈ blk 512 256 s, f i = g i) :
    (wqPts c s f : sProp 𝕄) = wqPts c s g := by
  have h' := pts_congr (ℓ := mWqAll.view.loc (c : Thread nD τ))
    (J := blk 512 256 s) (q := fullShare) f g h
  exact h'
theorem woPts_congr (s : Fin 8) (f g : FVec F S8x256x512 .bf16) (h : ∀ i ∈ blk 256 512 s, f i = g i) :
    (woPts c s f : sProp 𝕄) = woPts c s g := by
  have h' := pts_congr (ℓ := mWoAll.view.loc (c : Thread nD τ))
    (J := blk 256 512 s) (q := fullShare) f g h
  exact h'

theorem wq_slot (f : FVec F S8x512x256 .bf16) (h : ∀ i ∈ blk 512 256 c, f i = wqAll I i) :
    (wqPts c c f : sProp 𝕄) = slotPts false c c fullShare (gath I false) :=
  (wqPts_congr c c f (wqAll I) h).trans (slot_wq c c fullShare (wqAll I)).symm
theorem wo_slot (f : FVec F S8x256x512 .bf16) (h : ∀ i ∈ blk 256 512 c, f i = woAll I i) :
    (woPts c c f : sProp 𝕄) = slotPts true c c fullShare (gath I true) :=
  (woPts_congr c c f (woAll I) h).trans (slot_wo c c fullShare (woAll I)).symm

theorem step_stage :
    stagePre I c ⊢ wp frame (wpE (defs₀ (F := F)) 𝒱₀ c none) Set.univ (stage c) (fun _ => stagePost I c) := by
  unfold stagePre stagePost wqPts woPts stage loadW loadQ loadO
  simp only [Prog.lift, Prog.bind_op, Prog.bind_ret]
  iintro ⟨Hx, Hwq, Hwo, ⟨%fx, Hxb⟩, ⟨%fq, Hq⟩, ⟨%fo, Ho⟩⟩
  iapply (wp_load_rect 𝒱₀ (c : Thread nD τ) none Set.univ (m := mX) (r := wRect) (Finset.subset_univ _)) $$ Hx
  iintro Hx
  iapply (wp_load_rect 𝒱₀ (c : Thread nD τ) none Set.univ (m := mXb) (r := wRect) (Finset.subset_univ _)) $$ Hxb
  iintro Hxb
  iapply (wp_store 𝒱₀ (c : Thread nD τ) none Set.univ (m := mXb) (r := wRect) (Mk := Finset.univ) (Finset.subset_univ _)) $$ Hxb
  iintro Hxb
  rw [xb_write, x_read]
  iapply (wp_load_rect 𝒱₀ (c : Thread nD τ) none Set.univ (m := mWq) (r := uRect) (Finset.subset_univ _)) $$ Hwq
  iintro Hwq
  rw [wq_read]
  iapply (wp_load_rect 𝒱₀ (c : Thread nD τ) none Set.univ (m := mWqAll) (r := qRect c) (q_set c).subset) $$ Hq
  iintro Hq
  iapply (wp_store 𝒱₀ (c : Thread nD τ) none Set.univ (m := mWqAll) (r := qRect c) (Mk := Finset.univ) (q_set c).subset) $$ Hq
  iintro Hq
  iapply (wp_load_rect 𝒱₀ (c : Thread nD τ) none Set.univ (m := mWo) (r := wRect) (Finset.subset_univ _)) $$ Hwo
  iintro Hwo
  rw [wo_read]
  iapply (wp_load_rect 𝒱₀ (c : Thread nD τ) none Set.univ (m := mWoAll) (r := oRect c) (o_set c).subset) $$ Ho
  iintro Ho
  iapply (wp_store 𝒱₀ (c : Thread nD τ) none Set.univ (m := mWoAll) (r := oRect c) (Mk := Finset.univ) (o_set c).subset) $$ Ho
  iintro Ho
  rw [wp_ret]
  imodintro
  isplitl [Hx]; · iexact Hx
  isplitl [Hwq]; · iexact Hwq
  isplitl [Hwo]; · iexact Hwo
  isplitl [Hxb]; · iexact Hxb
  isplitl [Hq]
  · iapply (Entails.of_eq (wq_slot I c _ (wq_staged I c fq)))
    unfold wqPts
    iexact Hq
  iapply (Entails.of_eq (wo_slot I c _ (wo_staged I c fo)))
  unfold woPts
  iexact Ho

end Cert.KernelIdeal.Own

end
-- ==== Proof.Body.lean ====
/- The whole body at a device: the scratch buffers cut into their slots, the barrier, the staging, the run of the steps, and the
   buffers put together again. -/
module

public import proofs.«01_k».proof.Proof.Barrier

@[expose] public section

noncomputable section

namespace Cert.KernelIdeal.Own

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

variable (I : Ins F) (K : GSem nD τ sig → ℕ) (c : Dev nD)

/-! ## Indexing by relation -/

/-- Relation and device determine each other. -/
def nbE : Fin 8 ≃ Fin 8 := ⟨nb c, nb c, fun r => nb_self c r, fun r => nb_self c r⟩

theorem rr_inj (l : Bool) : Function.Injective (rr l) := by revert l; decide

theorem bigSep_rel (l : Bool) (Φ : Fin 8 → sProp 𝕄) :
    bigSep Finset.univ Φ = iprop(Φ 0 ∗ bigSep Finset.univ fun k : Fin 7 => Φ (rr l k)) := by
  rw [show (Finset.univ : Finset (Fin 8)) = insert 0 (Finset.univ.map ⟨rr l, rr_inj l⟩) by revert l; decide,
    bigSep_insert (by revert l; decide), bigSep_map]
  rfl

theorem bigSep_lanes {α : Type} [Fintype α] [DecidableEq α] (Φ : Bool → α → sProp 𝕄) :
    (bigSep Finset.univ fun p : Bool × α => Φ p.1 p.2)
      = iprop(bigSep Finset.univ (Φ false) ∗ bigSep Finset.univ (Φ true)) := by
  rw [bigSep_univ_prod (fun p : Bool × α => Φ p.1 p.2)]
  exact bigSep_eq_bigSepL_of_eq (S := Finset.univ) [false, true] (by decide) (by decide) _

theorem bigSep_perSend (A : Bool → Fin 7 → Atom) (h : Function.Injective fun p : Bool × Fin 7 => A p.1 p.2) (Φ : Atom → sProp 𝕄) :
    bigSep (perSend A) Φ = bigSep Finset.univ fun p : Bool × Fin 7 => Φ (A p.1 p.2) := by
  unfold perSend
  rw [show (Finset.univ.image fun p : Bool × Fin 7 => A p.1 p.2) = Finset.univ.map ⟨_, h⟩ from (Finset.map_eq_image (⟨_, h⟩ : _ ↪ _) Finset.univ).symm, bigSep_map]
  rfl

theorem bigSep_rels (A : Fin 8 → Atom) (h : Function.Injective A) (Φ : Atom → sProp 𝕄) :
    bigSep (Finset.univ.image A) Φ = bigSep Finset.univ fun r => Φ (A r) := by
  rw [show Finset.univ.image A = Finset.univ.map ⟨_, h⟩ from (Finset.map_eq_image (⟨_, h⟩ : _ ↪ _) Finset.univ).symm, bigSep_map]
  rfl

/-! ## A scratch buffer as its slots -/

theorem pts_blocks {ℓ : Loc nD τ sig} (f : Buf (Elt F) ℓ) (B : Fin 8 → Finset (Idx ℓ)) (hd : ∀ s t, s ≠ t → Disjoint (B s) (B t))
    (hu : Finset.univ.biUnion B = Finset.univ) :
    (ℓ ↦[Finset.univ]{fullShare} f : sProp 𝕄) = bigSep Finset.univ fun r : Fin 8 => ℓ ↦[B (nb c r)]{fullShare} f := by
  rw [← hu, pointsTo_biUnion _ _ fun s _ t _ => hd s t, bigSep_univ_equiv (nbE c)]
  rfl

theorem wq_whole (f : FVec F S8x512x256 .bf16) :
    (pt c cc0_scratch1 f : sProp 𝕄) = bigSep Finset.univ fun r : Fin 8 => slotPts false c (nb c r) fullShare f := by
  have h := pts_blocks c (ℓ := mWqAll.view.loc (c : Thread nD τ)) f (blk 512 256) (fun s t => blk_disjoint s t) (blk_union 512 256)
  refine Eq.trans h ?_
  exact bigSep_congr fun r _ => (slot_wq c (nb c r) fullShare f).symm

theorem wo_whole (f : FVec F S8x256x512 .bf16) :
    (pt c cc0_scratch2 f : sProp 𝕄) = bigSep Finset.univ fun r : Fin 8 => slotPts true c (nb c r) fullShare f := by
  have h := pts_blocks c (ℓ := mWoAll.view.loc (c : Thread nD τ)) f (blk 256 512) (fun s t => blk_disjoint s t) (blk_union 256 512)
  refine Eq.trans h ?_
  exact bigSep_congr fun r _ => (slot_wo c (nb c r) fullShare f).symm

theorem ctx_whole (f : FVec F S8x256x256 .bf16) :
    (pt c cc0_scratch3 f : sProp 𝕄) = bigSep Finset.univ fun r : Fin 8 => ctxPts c (nb c r) f := by
  have h := pts_blocks c (ℓ := mCtx.view.loc (c : Thread nD τ)) f (blk 256 256) (fun s t => blk_disjoint s t) (blk_union 256 256)
  refine Eq.trans h ?_
  rfl

/-- A gathered lane at its end: the whole buffer. -/
theorem shares_whole : (bigSep (Finset.univ.biUnion fun p : Bool × Fin 8 => shares p.1 p.2) (den I K c) : sProp 𝕄)
    = iprop(pt c cc0_scratch1 (wqAll I) ∗ pt c cc0_scratch2 (woAll I)) := by
  rw [bigSep_biUnion_eq _ _ _ (by decide +kernel)]
  rw [bigSep_congr (Ψ := fun p : Bool × Fin 8 => slotPts p.1 c (nb c p.2) fullShare (gath I p.1)) fun p _ => den_shares I K c p.1 p.2,
    bigSep_lanes (fun l r => slotPts l c (nb c r) fullShare (gath I l)), wq_whole, wo_whole]
  rfl

/-! ## The states in full -/

theorem st0_den : (bigSep st0.1 (den I K c) : sProp 𝕄)
    = iprop((bigSep Finset.univ fun p : Bool × Fin 7 => sendKit I K c p.1 p.2)
      ∗ (bigSep Finset.univ fun p : Bool × Fin 7 => landing p.1 p.2 c)
      ∗ (bigSep Finset.univ fun p : Bool × Fin 7 => recvKit I K c p.1 (rr p.1 p.2))
      ∗ (slotPts false c (nb c 0) fullShare (gath I false) ∗ slotPts true c (nb c 0) fullShare (gath I true))
      ∗ (bigSep Finset.univ fun r : Fin 8 => iprop(∃ f, ctxPts c (nb c r) f))
      ∗ fixPts I c ∗ outPts I c 0) := by
  rw [show st0.1 = perSend .kit ∪ (perSend .land ∪ (perSend (fun l k => .await l (rr l k)) ∪ ((shares false 0 ∪ shares true 0)
      ∪ (Finset.univ.image Atom.raw ∪ {.fix, .out 0})))) by decide +kernel,
    bigSep_union (by decide +kernel), bigSep_union (by decide +kernel), bigSep_union (by decide +kernel),
    bigSep_union (by decide +kernel), bigSep_union (by decide +kernel), bigSep_union (by decide +kernel),
    bigSep_perSend _ (by decide +kernel), bigSep_perSend _ (by decide +kernel), bigSep_perSend _ (by decide +kernel),
    den_shares, den_shares, bigSep_rels _ (by decide +kernel), bigSep_insert (by decide), bigSep_singleton]
  rfl

theorem stEnd_den : (bigSep stEnd (den I K c) : sProp 𝕄)
    = iprop((bigSep Finset.univ fun p : Bool × Fin 7 => semVal (sendC p.1 c p.2) 0)
      ∗ (bigSep Finset.univ fun p : Bool × Fin 7 => semVal (recvC p.1 c (nb c (rr p.1 p.2))) 0)
      ∗ (pt c cc0_scratch1 (wqAll I) ∗ pt c cc0_scratch2 (woAll I))
      ∗ pt c cc0_scratch3 (ctxAll I c)
      ∗ fixPts I c ∗ outPts I c 8) := by
  rw [show stEnd = perSend .sendZero ∪ (perSend (fun l k => .recvZero l (rr l k)) ∪ ((Finset.univ.biUnion fun p : Bool × Fin 8 => shares p.1 p.2)
      ∪ (Finset.univ.image Atom.att ∪ {.fix, .out 8}))) by decide +kernel,
    bigSep_union (by decide +kernel), bigSep_union (by decide +kernel), bigSep_union (by decide +kernel),
    bigSep_union (by decide +kernel),
    bigSep_perSend _ (by decide +kernel), bigSep_perSend _ (by decide +kernel),
    shares_whole, bigSep_rels _ (by decide +kernel), bigSep_insert (by decide), bigSep_singleton, ctx_whole]
  rfl

/-! ## The body -/

/-- The operands as staged. -/
def insPts : sProp 𝕄 :=
  iprop(pt c cc0_stg0_0 (I.x c) ∗ pt c cc0_stg1_0 (I.wq c) ∗ pt c cc0_stg2_0 (I.k c) ∗ pt c cc0_stg3_0 (I.v c) ∗ pt c cc0_stg4_0 (I.wo c))

/-- The scratch buffers, at contents not chosen. -/
def scratch : sProp 𝕄 :=
  iprop((∃ f, pt c cc0_scratch0 f) ∗ (∃ f, pt c cc0_scratch1 f) ∗ (∃ f, pt c cc0_scratch2 f) ∗ (∃ f, pt c cc0_scratch3 f))

/-- The cells as the body finds them. -/
def cells : sProp 𝕄 :=
  iprop(barKit I K c ∗ (bigSep Finset.univ fun p : Bool × Fin 7 => sendKit I K c p.1 p.2)
    ∗ (bigSep Finset.univ fun p : Bool × Fin 7 => recvKit I K c p.1 (rr p.1 p.2))
    ∗ (bigSep Finset.univ fun p : Bool × Fin 7 => reached ER (recvC p.1 c (nb c (rr p.1 p.2))) 0))

/-- The counters as it leaves them. -/
def zeros : sProp 𝕄 :=
  iprop((bigSep Finset.univ fun p : Bool × Fin 7 => semVal (sendC p.1 c p.2) 0)
    ∗ (bigSep Finset.univ fun p : Bool × Fin 7 => semVal (recvC p.1 c (nb c (rr p.1 p.2))) 0))

def bodyPre : sProp 𝕄 :=
  iprop(levAts L lv ∗ cells I K c ∗ insPts I c ∗ (∃ f, pt c cc0_stg5_0 f) ∗ scratch c ∗ ∃ W, owes (c : Thread nD τ) (O₀ c) W)

def bodyPost : sProp 𝕄 :=
  iprop(semVal (barC c) 0 ∗ zeros c ∗ insPts I c ∗ pt c cc0_stg5_0 (acc I c 8) ∗ scratch c
    ∗ ∃ W, owes (c : Thread nD τ) (0 : CellTallies nD τ sig Unit) W)

/-- A gathered buffer before the run: the own slot, and the others lent to the neighbours that fill them. -/
theorem lend_all (l : Bool) (f : (lane l).m.view.ref.ty.Contents (Elt F)) :
    (bigSep Finset.univ fun r : Fin 8 => slotPts l c (nb c r) fullShare f : sProp 𝕄)
      ⊢ iprop(slotPts l c c fullShare f ∗ bigSep Finset.univ fun k : Fin 7 => iprop(∃ f, slotPts l c (nb c (rr l k)) fullShare f)) := by
  rw [bigSep_rel l, show nb c 0 = c from nb_zero c]
  have h (k : Fin 7) : (slotPts l c (nb c (rr l k)) fullShare f : sProp 𝕄) ⊢ iprop(∃ f, slotPts l c (nb c (rr l k)) fullShare f) := by
    iintro H; iexists f; iexact H
  exact sep_mono_right (bigSep_mono fun k _ => h k)

theorem own_q (f : FVec F S8x512x256 .bf16) :
    (slotPts false c c fullShare f : sProp 𝕄) ⊢ iprop(∃ f, wqPts c c f) := by
  rw [show (slotPts false c c fullShare f : sProp 𝕄) = wqPts c c f from slot_wq c c fullShare f]
  iintro H; iexists f; iexact H
theorem own_o (f : FVec F S8x256x512 .bf16) :
    (slotPts true c c fullShare f : sProp 𝕄) ⊢ iprop(∃ f, woPts c c f) := by
  rw [show (slotPts true c c fullShare f : sProp 𝕄) = woPts c c f from slot_wo c c fullShare f]
  iintro H; iexists f; iexact H
theorem raw_all (f : FVec F S8x256x256 .bf16) :
    (pt c cc0_scratch3 f : sProp 𝕄) ⊢ bigSep Finset.univ fun r : Fin 8 => iprop(∃ f, ctxPts c (nb c r) f) := by
  rw [ctx_whole]
  have h (r : Fin 8) : (ctxPts c (nb c r) f : sProp 𝕄) ⊢ iprop(∃ f, ctxPts c (nb c r) f) := by
    iintro H; iexists f; iexact H
  exact bigSep_mono fun r _ => h r

theorem body_run : bodyPre I K c ⊢ wp frame (wpE (defs₀ (F := F)) 𝒱₀ c none) Set.univ (progR (F := F)) (fun _ => bodyPost I c) := by
  have hrun := execAll_sound I K c steps st0 (stEnd, []) run_ok (by decide)
  unfold progR bodyPre cells scratch insPts
  rw [wp_bind]
  simp only [Prog.lift, wp_deviceId, wp_ret]
  iintro ⟨#Hlev, ⟨Hbar, Hsk, Hrk, Hre⟩, ⟨Hx, Hwq, Hk, Hv, Hwo⟩, Hout, ⟨Hs0, ⟨%f1, Hs1⟩, ⟨%f2, Hs2⟩, ⟨%f3, Hs3⟩⟩, HO⟩
  imodintro
  ihave Hq := (Entails.of_eq (wq_whole c f1)) $$ Hs1
  ihave Hq' := (lend_all c false f1) $$ Hq
  icases Hq' with ⟨Hq, Hql⟩
  ihave Ho := (Entails.of_eq (wo_whole c f2)) $$ Hs2
  ihave Ho' := (lend_all c true f2) $$ Ho
  icases Ho' with ⟨Ho, Hol⟩
  rw [wp_bind]
  iapply (wp_wand frame (wpE (defs₀ (F := F)) 𝒱₀ c none) Set.univ) $$ [Hbar Hre Hql Hol HO]
  · iapply (step_barrier I K c)
    isplitr; · iexact Hlev
    isplitl [Hbar]; · iexact Hbar
    isplitl [Hre Hql Hol]
    · unfold lend
      rw [bigSep_sep']
      isplitl [Hql Hol]
      · rw [bigSep_lanes (fun l (k : Fin 7) => iprop(∃ f, slotPts l c (nb c (rr l k)) fullShare f))]
        isplitl [Hql]; · iexact Hql
        iexact Hol
      iexact Hre
    iexact HO
  iintro %u ⟨Hz, Hland, HO⟩
  rw [wp_bind]
  iapply (wp_wand frame (wpE (defs₀ (F := F)) 𝒱₀ c none) Set.univ) $$ [Hx Hwq Hwo Hs0 Hq Ho]
  · iapply (step_stage I c)
    unfold stagePre
    isplitl [Hx]; · iexact Hx
    isplitl [Hwq]; · iexact Hwq
    isplitl [Hwo]; · iexact Hwo
    isplitl [Hs0]; · iexact Hs0
    isplitl [Hq]; · iapply (own_q c f1); iexact Hq
    iapply (own_o c f2); iexact Ho
  unfold stagePost
  iintro %u' ⟨Hx, Hwq, Hwo, Hs0, Hq, Ho⟩
  iapply (wp_wand frame (wpE (defs₀ (F := F)) 𝒱₀ c none) Set.univ) $$ [Hsk Hrk Hland Hq Ho Hs3 Hs0 Hk Hv Hout HO]
  · iapply hrun
    isplitr; · iexact Hlev
    unfold St Owing
    rw [st0_den]
    isplitr [HO]
    · isplitl [Hsk]; · iexact Hsk
      isplitl [Hland]; · iexact Hland
      isplitl [Hrk]; · iexact Hrk
      rw [show nb c 0 = c from nb_zero c]
      isplitl [Hq Ho]; · isplitl [Hq] <;> iassumption
      isplitl [Hs3]
      · iapply (raw_all c f3); iexact Hs3
      unfold fixPts outPts
      isplitl [Hs0 Hk Hv]
      · isplitl [Hs0]; · iexact Hs0
        isplitl [Hk] <;> iassumption
      icases Hout with ⟨%fo, Hout⟩
      iexists fo
      isplitr; · ipureintro; exact fun h => absurd rfl h
      iexact Hout
    iexact HO
  unfold St Owing
  rw [stEnd_den]
  unfold fixPts outPts bodyPost zeros insPts scratch
  iintro %u'' ⟨-, ⟨Hzs, Hzr, ⟨Hs1, Hs2⟩, Hs3, ⟨Hs0, Hk, Hv⟩, ⟨%fo, %hfo, Hout⟩⟩, HO⟩
  isplitl [Hz]; · iexact Hz
  isplitl [Hzs Hzr]; · isplitl [Hzs] <;> iassumption
  isplitl [Hx Hwq Hk Hv Hwo]
  · isplitl [Hx]; · iexact Hx
    isplitl [Hwq]; · iexact Hwq
    isplitl [Hk]; · iexact Hk
    isplitl [Hv] <;> iassumption
  isplitl [Hout]
  · rw [hfo (by decide)]; iexact Hout
  isplitl [Hs0 Hs1 Hs2 Hs3]
  · isplitl [Hs0]; · iexists _; iexact Hs0
    isplitl [Hs1]; · iexists _; iexact Hs1
    isplitl [Hs2]; · iexists _; iexact Hs2
    iexists _; iexact Hs3
  iexact HO

end Cert.KernelIdeal.Own

end
-- ==== Proof.Region.lean ====
/- The kernel region as a segment of the program: what the windows stage, the body's obligation, the opening of the region's own
   semaphores, and the state before and after. -/
module

public import proofs.«01_k».proof.Proof.Body
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.FrameBody
public import Idealize.ShloMosaic.Lib.Pipeline.ValueKit.Geometry

@[expose] public section

noncomputable section

namespace Cert.KernelIdeal.Own

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The operands of the region, as the host operations before it leave them. -/
def insOf : Ins F where
  x c := V1 m c main_v5
  wq c := V1 m c main_arg1
  k c := V1 m c main_v17
  v c := V1 m c main_v19
  wo c := V1 m c main_arg4

/-- What the region leaves in its result. -/
def outs : Outs (F := F) := fun _ r c =>
  if h : r = main_v20 then h ▸ (acc (insOf m) c 8 : Buf (Elt F) ((c : Thread nD τ).loc main_v20)) else fun _ => Classical.arbitrary _

theorem outs_v20 (c : Dev nD) : outs m 2 main_v20 c = acc (insOf m) c 8 := by
  unfold outs; rw [dif_pos rfl]

/-! ## The region's own semaphores -/

/-- Every send's and every receive's semaphore. -/
def osem : (Bool × Fin 7) ⊕ (Bool × Fin 8) → SemLoc sig
  | .inl p => .dma (sendS p.1 p.2)
  | .inr p => .dma (recvS p.1 p.2)

theorem osem_facts : Pipeline.OwnSemFacts spec0 osem := by decide +kernel

/-- The receive counters no transfer credits: those of the device's own slots. -/
def own0 (c : Dev nD) : sProp 𝕄 := iprop(semVal (recvC false c c) 0 ∗ semVal (recvC true c c) 0)

theorem five (A B C D E : sProp 𝕄) : iprop(A ∗ (B ∗ C) ∗ (D ∗ E)) = iprop((A ∗ C ∗ E) ∗ (B ∗ D)) := by
  have h1 : (iprop(A ∗ (B ∗ C) ∗ (D ∗ E)) : sProp 𝕄) ⊢ iprop((A ∗ C ∗ E) ∗ (B ∗ D)) := by
    iintro ⟨HA, ⟨HB, HC⟩, HD, HE⟩
    isplitl [HA HC HE]
    · isplitl [HA]; · iexact HA
      isplitl [HC] <;> iassumption
    isplitl [HB] <;> iassumption
  have h2 : (iprop((A ∗ C ∗ E) ∗ (B ∗ D)) : sProp 𝕄) ⊢ iprop(A ∗ (B ∗ C) ∗ (D ∗ E)) := by
    iintro ⟨⟨HA, HC, HE⟩, HB, HD⟩
    isplitl [HA]; · iexact HA
    isplitl [HB HC]
    · isplitl [HB] <;> iassumption
    isplitl [HD] <;> iassumption
  exact BI.equiv_iff.mp ⟨h1, h2⟩

theorem ownSems_eq (c : Dev nD) : (Pipeline.ownSems0 osem c : sProp 𝕄) = iprop(zeros c ∗ own0 c) := by
  have hr (l : Bool) : (bigSep Finset.univ fun s : Fin 8 => (semVal (recvC l c s) 0 : sProp 𝕄))
      = iprop(semVal (recvC l c c) 0 ∗ bigSep Finset.univ fun k : Fin 7 => semVal (recvC l c (nb c (rr l k))) 0) := by
    rw [bigSep_univ_equiv (nbE c), bigSep_rel l]
    show iprop(semVal (recvC l c (nb c 0)) 0 ∗ _) = _
    rw [nb_zero c]
    rfl
  have h0 : (Pipeline.ownSems0 osem c : sProp 𝕄) = iprop((bigSep Finset.univ fun p : Bool × Fin 7 => semVal (sendC p.1 c p.2) 0)
      ∗ bigSep Finset.univ fun p : Bool × Fin 8 => semVal (recvC p.1 c p.2) 0) := by
    unfold Pipeline.ownSems0
    rw [bigSep_univ_sum]
    rfl
  rw [h0, bigSep_lanes (fun l (s : Fin 8) => (semVal (recvC l c s) 0 : sProp 𝕄)), hr, hr]
  unfold zeros own0
  rw [bigSep_lanes (fun l k => (semVal (recvC l c (nb c (rr l k))) 0 : sProp 𝕄))]
  exact five _ _ _ _ _

/-! ## The region's proof data -/

/-- What enters the region beside its buffers. -/
def Xk (c : Dev nD) : sProp 𝕄 := iprop(levAts L lv ∗ (∃ K, cells (insOf m) K c) ∗ own0 c)

/-- What leaves it. -/
def Yk (c : Dev nD) : sProp 𝕄 := semVal (barC c) 0

def dat0 (c : Dev nD) : Dat τ (Elt F) Unit ℕ UU ℕ cfg0 c where
  A w := V1 m c (Proc.devRef .tc (Pipeline.arrRef spec0 w))
  after w _ := match w with
    | ⟨0, _⟩ => (insOf m).x c
    | ⟨1, _⟩ => (insOf m).wq c
    | ⟨2, _⟩ => (insOf m).k c
    | ⟨3, _⟩ => (insOf m).v c
    | ⟨4, _⟩ => (insOf m).wo c
    | ⟨5, _⟩ => acc (insOf m) c 8
  Φ t := if t.val = 0 then iprop(Xk m c ∗ scratch c ∗ ∃ r, prngReg c r)
    else iprop((Yk c ∗ zeros c ∗ own0 c) ∗ scratch c ∗ ∃ r, prngReg c r)
  q _ := fullShare
  owed t := if t.val = 0 then O₀ c else 0

def pdats : (p : Fin 1) → (c : Dev nD) → Dat τ (Elt F) Unit ℕ UU ℕ (Pipeline.pin (pcfgs (F := F)) adm p) c
  | 0 => dat0 m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-! ## The body's obligation -/

/-- A window fetched whole reads its array where it lies. -/
theorem fetched_apply {c : Dev nD} (dat : Dat τ (Elt F) Unit ℕ UU ℕ cfg0 c) (w : Fin cfg0.W) (t : Fin cfg0.N)
    (hc : ∀ a, (cfg0.win w).clip (cfg0.grid.coords t) a = none) (h0 : ∀ a, (cfg0.win w).index t a = 0)
    (d : (cfg0.win w).block.Idx → Elt F (cfg0.win w).elt) (j : (cfg0.win w).block.Idx) (i : (cfg0.win w).shape.Idx)
    (hi : ∀ a, (i a).val = (j a).val) :
    dat.fetched w t d j = _root_.cast (congrArg (Elt F) (cfg0.win w).arr.view.elt_eq) (dat.A w ((cfg0.win w).arr.view.emb i)) := by
  have hm : (cfg0.win w).moved (cfg0.grid.coords t) j = true :=
    ((cfg0.win w).moved_iff _ j).mpr fun a => by have := (j a).isLt; unfold Pipeline.Window.xsize; rw [hc a]; exact this
  unfold Dat.fetched Pipeline.Window.fill
  rw [dif_pos hm]
  unfold Dat.blockOf
  rw [View.read_apply]
  show _root_.cast _ (dat.A w ((cfg0.win w).arr.view.emb (((cfg0.win w).rect t).emb _))) = _
  congr 3
  funext a; apply Fin.ext
  rw [Pipeline.Window.rect_emb_val_of_index_zero _ _ _ (h0 a), hi]

theorem before_0 (c : Dev nD) (d) : (dat0 m c).before 0 t0_0 d = (insOf m).x c := by
  rw [Dat.before_fetched _ _ _ (fetch0_0 t0_0)]
  funext i
  exact (fetched_apply (dat0 m c) 0 t0_0 (fun _ => rfl) (fun _ => rfl) d i i fun _ => rfl).trans rfl
theorem before_1 (c : Dev nD) (d) : (dat0 m c).before 1 t0_0 d = (insOf m).wq c := by
  rw [Dat.before_fetched _ _ _ (fetch0_1 t0_0)]
  funext i
  exact (fetched_apply (dat0 m c) 1 t0_0 (fun _ => rfl) (fun _ => rfl) d i i fun _ => rfl).trans rfl
theorem before_2 (c : Dev nD) (d) : (dat0 m c).before 2 t0_0 d = (insOf m).k c := by
  rw [Dat.before_fetched _ _ _ (fetch0_2 t0_0)]
  funext i
  exact (fetched_apply (dat0 m c) 2 t0_0 (fun _ => rfl) (fun _ => rfl) d i i fun _ => rfl).trans rfl
theorem before_3 (c : Dev nD) (d) : (dat0 m c).before 3 t0_0 d = (insOf m).v c := by
  rw [Dat.before_fetched _ _ _ (fetch0_3 t0_0)]
  funext i
  exact (fetched_apply (dat0 m c) 3 t0_0 (fun _ => rfl) (fun _ => rfl) d i i fun _ => rfl).trans rfl
theorem before_4 (c : Dev nD) (d) : (dat0 m c).before 4 t0_0 d = (insOf m).wo c := by
  rw [Dat.before_fetched _ _ _ (fetch0_4 t0_0)]
  funext i
  exact (fetched_apply (dat0 m c) 4 t0_0 (fun _ => rfl) (fun _ => rfl) d i i fun _ => rfl).trans rfl

/-- The result's array after the region. -/
theorem arr_5 (c : Dev nD) : (dat0 m c).arrAt 5 cfg0.N = acc (insOf m) c 8 :=
  (dat0 m c).arrAt_eq_of_after_last 5 t0_0 (by decide +kernel) _ (fun _ => rfl)

omit [FloatOps F] in
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((Memref.whole b).view.loc (c : Thread nD τ)), ⌜f = X⌝ ∗ pt c b f) := by
  unfold owns; simp only [Memref.view_whole, View.read_whole, View.set_whole]

theorem owesAt_of {c : Dev nD} (dat : Dat τ (Elt F) Unit ℕ UU ℕ cfg0 c) (t : Fin (cfg0.N + 1)) (O : CellTallies nD τ sig Unit)
    (h0 : dat.owed t = O) (hr : dat.recorded t = Set.univ) :
    iprop(∃ W, owes (c : Thread nD τ) O W) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_to {c : Dev nD} (dat : Dat τ (Elt F) Unit ℕ UU ℕ cfg0 c) (t : Fin (cfg0.N + 1)) (O : CellTallies nD τ sig Unit)
    (h0 : dat.owed t = O) : (dat.owesAt () t : sProp 𝕄) ⊢ iprop(∃ W, owes (c : Thread nD τ) O W) := by
  unfold Dat.owesAt Pipeline.owesWithin; rw [h0]
  iintro ⟨%W, -, HO⟩; iexists W; iexact HO

/-- The region's one point: what the body is called with and what it returns, buffer by buffer. -/
theorem body_pt (c : Dev nD) :
    iprop((Xk m c ∗ scratch c ∗ ∃ r, prngReg c r) ∗ (dat0 m c).owesAt () t0_0.castSucc
      ∗ (∃ d, owns (c : Thread nD τ) mX fullShare ((dat0 m c).before 0 t0_0 d)) ∗ (∃ d, owns (c : Thread nD τ) mWq fullShare ((dat0 m c).before 1 t0_0 d))
      ∗ (∃ d, owns (c : Thread nD τ) mK fullShare ((dat0 m c).before 2 t0_0 d)) ∗ (∃ d, owns (c : Thread nD τ) mV fullShare ((dat0 m c).before 3 t0_0 d))
      ∗ (∃ d, owns (c : Thread nD τ) mWo fullShare ((dat0 m c).before 4 t0_0 d)) ∗ ∃ d, owns (c : Thread nD τ) mOut fullShare ((dat0 m c).before 5 t0_0 d))
    ⊢ wp frame (wpE (defs₀ (F := F)) 𝒱₀ c none) Set.univ (progR (F := F)) fun _ =>
      iprop(((Yk c ∗ zeros c ∗ own0 c) ∗ scratch c ∗ ∃ r, prngReg c r) ∗ (dat0 m c).owesAt () t0_0.succ
        ∗ owns (c : Thread nD τ) mX fullShare ((insOf m).x c) ∗ owns (c : Thread nD τ) mWq fullShare ((insOf m).wq c)
        ∗ owns (c : Thread nD τ) mK fullShare ((insOf m).k c) ∗ owns (c : Thread nD τ) mV fullShare ((insOf m).v c)
        ∗ owns (c : Thread nD τ) mWo fullShare ((insOf m).wo c) ∗ owns (c : Thread nD τ) mOut fullShare (acc (insOf m) c 8)) := by
  simp only [owns_stage, before_0, before_1, before_2, before_3, before_4]
  unfold Xk
  iintro ⟨⟨⟨#Hlev, ⟨%K, Hc⟩, Hown⟩, Hscr, Hreg⟩, HO, ⟨%d0, %f0, %h0, H0⟩, ⟨%d1, %f1, %h1, H1⟩, ⟨%d2, %f2, %h2, H2⟩, ⟨%d3, %f3, %h3, H3⟩,
    ⟨%d4, %f4, %h4, H4⟩, ⟨%d5, %f5, %h5, H5⟩⟩
  subst h0 h1 h2 h3 h4
  ihave HO := (owesAt_to (dat0 m c) _ (O₀ c) (owed_first m c)) $$ HO
  iapply (wp_wand frame (wpE (defs₀ (F := F)) 𝒱₀ c none) Set.univ) $$ [Hc Hscr HO H0 H1 H2 H3 H4 H5]
  · iapply (body_run (insOf m) K c)
    unfold bodyPre insPts
    isplitr; · iexact Hlev
    isplitl [Hc]; · iexact Hc
    isplitl [H0 H1 H2 H3 H4]
    · isplitl [H0]; · iexact H0
      isplitl [H1]; · iexact H1
      isplitl [H2]; · iexact H2
      isplitl [H3] <;> iassumption
    isplitl [H5]; · iexists f5; iexact H5
    isplitl [Hscr]; · iexact Hscr
    iexact HO
  unfold bodyPost insPts Yk
  iintro %u ⟨Hb, Hz, ⟨H0, H1, H2, H3, H4⟩, H5, Hscr, HO⟩
  isplitl [Hb Hz Hown Hscr Hreg]
  · isplitl [Hb Hz Hown]
    · isplitl [Hb]; · iexact Hb
      isplitl [Hz] <;> iassumption
    isplitl [Hscr] <;> iassumption
  isplitl [HO]
  · iapply (owesAt_of (dat0 m c) t0_0.succ 0 (owed_last m c) rfl); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

theorem row : defs₀ (F := F) .tc cfg0.body (cfg0.bodyArgs t0_0 (cfg0.slots t0_0)) = bodyAt0 t0_0 := by
  unfold defs₀; rw [Defs.onTc_tc]

theorem bodyAt_eq : bodyAt0 (F := F) t0_0 = progR :=
  (body_eq _ _ _ _ _ _ _ _ _ _).trans prog_eq

theorem body_ob (c : Dev nD) : BodyObligation (dat0 (F := F) m c) defs₀ 𝒱₀ () Set.univ := fun t => by
  obtain rfl := fin_N0 t
  rw [bigSep_W0, bigSep_W0, row, bodyAt_eq]
  exact triple_restated (body_pt m c) rfl .rfl fun _ => .rfl

end Cert.KernelIdeal.Own

end
-- ==== Proof.Ghost.lean ====
/- The launch's ghost state: which cells there are, the tokens of their duties and who holds each, the credit every cell is given, and
   the opening of the cells when the region begins. -/
module

public import proofs.«01_k».proof.Proof.Body
public import Idealize.ShloMosaic.Lib.Pipeline.Launch

@[expose] public section

noncomputable section

namespace Cert.KernelIdeal.Own

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

abbrev Pk : Type := Bool × Fin 7

/-! ## The cells before the region opens them -/

section Dormant
variable (I : Ins F) (K : GSem nD τ sig → ℕ) (c : Dev nD)

/-- The cell of send `p`, of which the device may open its own end. -/
abbrev cellS (p : Pk) : GSem nD τ sig := sendC p.1 c p.2
/-- The cell where the device receives the slot at send `p`'s relation. -/
abbrev cellR (p : Pk) : GSem nD τ sig := recvC p.1 c (nb c (rr p.1 p.2))
/-- The cell send `p` pays at its target. -/
abbrev cellT (p : Pk) : GSem nD τ sig := recvC p.1 (nb c (tg p.1 p.2)) (nb c (sl p.1 p.2))

def sendOff (p : Pk) : sProp 𝕄 :=
  iprop(cellInv ER (rd I) (K (cellS c p)) (cellS c p) ∗ cellInv ER (rd I) (K (cellT c p)) (cellT c p)
    ∗ dutyTok ER (cellS c p) 0 0 ∗ dutyTok ER (cellT c p) 0 0 ∗ openTok ER (cellS c p))
def recvOff (p : Pk) : sProp 𝕄 :=
  iprop(cellInv ER (rd I) (K (cellR c p)) (cellR c p) ∗ cred (tallyAt (cellR c p) () N) ∗ openTok ER (cellR c p))

/-- What a device holds of the protocol until its region begins. -/
def dormant : sProp 𝕄 :=
  iprop(barKit I K c ∗ (bigSep Finset.univ fun p : Pk => sendOff I K c p) ∗ bigSep Finset.univ fun p : Pk => recvOff I K c p)

theorem open_send (p : Pk) : iprop(sendOff I K c p ∗ semVal (cellS c p) 0) ⊢ (|={Set.univ}=> sendKit I K c p.1 p.2 : sProp 𝕄) := by
  unfold sendOff sendKit
  iintro ⟨⟨#H1, #H2, Ht, Hd, Ho⟩, Hz⟩
  imod (Rounds.cell_open ER (rd I) (g := cellS c p) (Set.mem_univ (K (cellS c p)))) $$ [Ho Hz] with ⟨Hat, #Hr⟩
  · isplitr; · iexact H1
    isplitl [Ho] <;> iassumption
  imodintro
  isplitr; · iexact H1
  isplitr; · iexact H2
  isplitl [Ht]; · iexact Ht
  isplitr; · iexact Hr
  isplitl [Hd] <;> iassumption

theorem open_recv (p : Pk) : iprop(recvOff I K c p ∗ semVal (cellR c p) 0)
    ⊢ (|={Set.univ}=> (recvKit I K c p.1 (rr p.1 p.2) ∗ reached ER (cellR c p) 0) : sProp 𝕄) := by
  unfold recvOff recvKit
  iintro ⟨⟨#H1, Hc, Ho⟩, Hz⟩
  imod (Rounds.cell_open ER (rd I) (g := cellR c p) (Set.mem_univ (K (cellR c p)))) $$ [Ho Hz] with ⟨Hat, #Hr⟩
  · isplitr; · iexact H1
    isplitl [Ho] <;> iassumption
  imodintro
  isplitl [Hc Hat]
  · isplitr; · iexact H1
    isplitl [Hc] <;> iassumption
  iexact Hr

/-- The region opens every cell of the device with its counters. -/
theorem open_cells : iprop(dormant I K c ∗ zeros c) ⊢ (|={Set.univ}=> cells I K c : sProp 𝕄) := by
  have hs : iprop((bigSep Finset.univ fun p : Pk => sendOff I K c p) ∗ bigSep Finset.univ fun p : Pk => semVal (sendC p.1 c p.2) 0)
      ⊢ (|={Set.univ}=> bigSep Finset.univ fun p : Pk => sendKit I K c p.1 p.2 : sProp 𝕄) := by
    rw [← bigSep_sep']
    exact (bigSep_mono fun p _ => open_send I K c p).trans (bigSep_fupd _ _)
  have hr : iprop((bigSep Finset.univ fun p : Pk => recvOff I K c p) ∗ bigSep Finset.univ fun p : Pk => semVal (recvC p.1 c (nb c (rr p.1 p.2))) 0)
      ⊢ (|={Set.univ}=> ((bigSep Finset.univ fun p : Pk => recvKit I K c p.1 (rr p.1 p.2))
          ∗ bigSep Finset.univ fun p : Pk => reached ER (recvC p.1 c (nb c (rr p.1 p.2))) 0) : sProp 𝕄) := by
    rw [← bigSep_sep', ← bigSep_sep']
    exact (bigSep_mono fun p _ => open_recv I K c p).trans (bigSep_fupd _ _)
  unfold dormant zeros cells
  iintro ⟨⟨Hb, Hs, Hr⟩, Hzs, Hzr⟩
  imod hs $$ [Hs Hzs] with Hs
  · isplitl [Hs] <;> iassumption
  imod hr $$ [Hr Hzr] with ⟨Hr, Hd⟩
  · isplitl [Hr] <;> iassumption
  imodintro
  isplitl [Hb]; · iexact Hb
  isplitl [Hs]; · iexact Hs
  isplitl [Hr] <;> iassumption

end Dormant

/-! ## The cells and the tokens as sets -/

theorem dev_of {c d : Dev nD} {a b : SemLoc sig} (h : (((c : Thread nD τ), a) : GSem nD τ sig) = ((d : Thread nD τ), b)) : c = d :=
  congrArg (fun g : GSem nD τ sig => g.1.1) h
theorem role_of {c d : Dev nD} {a b : SemLoc sig} (h : (((c : Thread nD τ), a) : GSem nD τ sig) = ((d : Thread nD τ), b)) : role a = role b :=
  congrArg (fun g : GSem nD τ sig => role g.2) h

theorem nb_inj (c : Dev nD) : Function.Injective (nb c) := (nbE c).injective

noncomputable def embB : Dev nD ↪ GSem nD τ sig := ⟨fun c => barC c, fun _ _ h => dev_of h⟩
noncomputable def embS : Dev nD × Pk ↪ GSem nD τ sig := ⟨fun x => cellS x.1 x.2, fun x y h => by
  have hc := dev_of h
  have hr := role_of h
  rw [role_send, role_send] at hr
  injection hr with h1 h2
  exact Prod.ext hc (Prod.ext h1 h2)⟩
theorem recv_eq {l l' : Bool} {c c' s s' : Dev nD} (h : recvC l c s = recvC l' c' s') : l = l' ∧ c = c' ∧ s = s' := by
  have hr := role_of h
  rw [role_recv, role_recv] at hr
  injection hr with h1 h2
  exact ⟨h1, dev_of h, h2⟩
def embR' : Dev nD × Pk ↪ GSem nD τ sig := ⟨fun x => cellR x.1 x.2, fun x y h => by
  obtain ⟨c, l, k⟩ := x; obtain ⟨c', l', k'⟩ := y
  obtain ⟨h1, h2, h3⟩ := recv_eq (show recvC l c (nb c (rr l k)) = recvC l' c' (nb c' (rr l' k')) from h)
  subst h1 h2
  rw [rr_inj l (nb_inj c h3)]⟩

noncomputable abbrev barCells : Finset (GSem nD τ sig) := Finset.univ.map embB
noncomputable abbrev offCells : Finset (GSem nD τ sig) := Finset.univ.map embS ∪ Finset.univ.map embR'

theorem bar_ne_send (c d : Dev nD) (p : Pk) : barC c ≠ cellS d p := fun h => by
  have hr := role_of h; rw [role_bar, role_send] at hr; injection hr
theorem bar_ne_recv (c d s : Dev nD) (l : Bool) : barC c ≠ recvC l d s := fun h => by
  have hr := role_of h; rw [role_bar, role_recv] at hr; injection hr
theorem send_ne_recv (c d s : Dev nD) (p : Pk) (l : Bool) : cellS c p ≠ recvC l d s := fun h => by
  have hr := role_of h; rw [role_send, role_recv] at hr; injection hr

theorem disj_map {α β γ : Type} [DecidableEq γ] [Fintype α] [Fintype β] (f : α ↪ γ) (g : β ↪ γ) (h : ∀ a b, f a ≠ g b) :
    Disjoint (Finset.univ.map f) (Finset.univ.map g) := by
  rw [Finset.disjoint_left]
  rintro x h1 h2
  obtain ⟨a, -, rfl⟩ := Finset.mem_map.mp h1
  obtain ⟨b, -, e⟩ := Finset.mem_map.mp h2
  exact h a b e.symm

theorem disj_off : Disjoint (Finset.univ.map embS) (Finset.univ.map embR') :=
  disj_map _ _ fun a b => send_ne_recv a.1 b.1 (nb b.1 (rr b.2.1 b.2.2)) a.2 b.2.1
theorem disj_cells : Disjoint barCells offCells :=
  Finset.disjoint_union_right.mpr ⟨disj_map _ _ fun a b => bar_ne_send a b.1 b.2,
    disj_map _ _ fun a b => bar_ne_recv a b.1 (nb b.1 (rr b.2.1 b.2.2)) b.2.1⟩

theorem bar_mem (c : Dev nD) : barC c ∈ barCells ∪ offCells :=
  Finset.mem_union_left _ (Finset.mem_map_of_mem embB (Finset.mem_univ c))
theorem send_mem (c : Dev nD) (p : Pk) : cellS c p ∈ barCells ∪ offCells :=
  Finset.mem_union_right _ (Finset.mem_union_left _ (Finset.mem_map_of_mem embS (Finset.mem_univ (c, p))))
theorem recv_mem (c : Dev nD) (p : Pk) : cellR c p ∈ barCells ∪ offCells :=
  Finset.mem_union_right _ (Finset.mem_union_right _ (Finset.mem_map_of_mem embR' (Finset.mem_univ (c, p))))

theorem target_slot (c : Dev nD) (l : Bool) (k : Fin 7) : nb (nb c (tg l k)) (rr l k) = nb c (sl l k) := by revert c l k; decide
/-- The cell a send pays is its target's receive cell at the same place in the table. -/
theorem cellT_eq (c : Dev nD) (p : Pk) : cellT c p = cellR (nb c (tg p.1 p.2)) p := by
  show recvC _ _ _ = recvC _ _ _
  rw [target_slot]

abbrev Tok : Type := GSem nD τ sig × ℕ × Fin 3
noncomputable def tokB : Dev nD × Fin 3 ↪ Tok := ⟨fun x => (barC x.1, 0, x.2), fun x y h =>
  Prod.ext (embB.injective (congrArg Prod.fst h)) (congrArg (fun t : Tok => t.2.2) h)⟩
noncomputable def tokOf (f : Dev nD × Pk ↪ GSem nD τ sig) : Dev nD × Pk ↪ Tok := ⟨fun x => (f x, 0, 0), fun _ _ h => f.injective (congrArg Prod.fst h)⟩
noncomputable abbrev toks : Finset Tok := Finset.univ.map tokB ∪ (Finset.univ.map (tokOf embS) ∪ Finset.univ.map (tokOf embR'))

theorem disj_toks : Disjoint (Finset.univ.map (tokOf embS)) (Finset.univ.map (tokOf embR')) :=
  disj_map _ _ fun a b h => send_ne_recv a.1 b.1 (nb b.1 (rr b.2.1 b.2.2)) a.2 b.2.1 (congrArg Prod.fst h)
theorem disj_tokB : Disjoint (Finset.univ.map tokB) (Finset.univ.map (tokOf embS) ∪ Finset.univ.map (tokOf embR')) :=
  Finset.disjoint_union_right.mpr ⟨disj_map _ _ fun a b h => bar_ne_send a.1 b.1 b.2 (congrArg Prod.fst h),
    disj_map _ _ fun a b h => bar_ne_recv a.1 b.1 (nb b.1 (rr b.2.1 b.2.2)) b.2.1 (congrArg Prod.fst h)⟩

/-- Exchanging a relation's two ends. -/
noncomputable def swapE (r : Fin 8) : Dev nD ≃ Dev nD := ⟨fun c => nb c r, fun c => nb c r, fun c => by revert c r; decide, fun c => by revert c r; decide⟩

theorem sums_comm {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]
  rfl
theorem pairs {α : Type} [Fintype α] {Φ Ψ : α → sProp 𝕄} :
    iprop(bigSep Finset.univ Φ ∗ bigSep Finset.univ Ψ) ⊢ bigSep Finset.univ fun a => iprop(Φ a ∗ Ψ a) :=
  Entails.of_eq (bigSep_sep' _ _ _).symm

/-- A family of each device's is one of its neighbours', each taken at its own relation. -/
theorem deal {α : Type} [Fintype α] (r : α → Fin 8) (Φ : Dev nD → α → sProp 𝕄) :
    (bigSep Finset.univ fun c : Dev nD => bigSep Finset.univ fun a => Φ c a)
      = bigSep Finset.univ fun c : Dev nD => bigSep Finset.univ fun a => Φ (nb c (r a)) a := by
  rw [sums_comm, sums_comm (fun (c : Dev nD) a => Φ (nb c (r a)) a)]
  exact bigSep_congr fun a _ => bigSep_univ_equiv (swapE (r a)) (fun c : Dev nD => Φ c a)

/-- The tokens of the duties a device itself pays. -/
def ownToks (c : Dev nD) : sProp 𝕄 :=
  iprop((bigSep Finset.univ fun j : Fin 3 => dutyTok ER (barC (nb c (nbr j))) 0 j) ∗ (bigSep Finset.univ fun p : Pk => dutyTok ER (cellS c p) 0 0)
    ∗ bigSep Finset.univ fun p : Pk => dutyTok ER (cellT c p) 0 0)

theorem toks_eq : bigSep toks (fun x => (dutyTok ER x.1 x.2.1 x.2.2 : sProp 𝕄)) = bigSep Finset.univ fun c : Dev nD => ownToks c := by
  unfold ownToks
  rw [bigSep_sep', bigSep_sep', bigSep_union disj_tokB, bigSep_union disj_toks, bigSep_map, bigSep_map, bigSep_map, bigSep_univ_prod, bigSep_univ_prod, bigSep_univ_prod]
  congr 1
  · exact deal (fun j : Fin 3 => nbr j) fun c j => (dutyTok ER (barC c) 0 j : sProp 𝕄)
  congr 1
  simp only [cellT_eq]
  exact deal (fun p : Pk => tg p.1 p.2) fun c p => (dutyTok ER (cellR c p) 0 0 : sProp 𝕄)

def openToks (c : Dev nD) : sProp 𝕄 :=
  iprop((bigSep Finset.univ fun p : Pk => openTok ER (cellS c p)) ∗ bigSep Finset.univ fun p : Pk => openTok ER (cellR c p))
theorem openToks_eq : bigSep offCells (fun g => (openTok ER g : sProp 𝕄)) = bigSep Finset.univ fun c : Dev nD => openToks c := by
  unfold openToks
  rw [bigSep_sep', bigSep_union disj_off, bigSep_map, bigSep_map, bigSep_univ_prod, bigSep_univ_prod]
  rfl

/-! ## The launch credit -/

theorem dues_at (d : Dev nD) (ps : List Pk) (l : Bool) (c s : Dev nD) :
    dues d ps (recvC l c s) () = N * (ps.map fun p => if l = p.1 ∧ c = nb d (tg p.1 p.2) ∧ s = nb d (sl p.1 p.2) then 1 else 0).sum := by
  induction ps with
  | nil => rfl
  | cons p ps ih =>
    unfold dues
    rw [Pi.add_apply, Finsupp.add_apply, ih, List.map_cons, List.sum_cons, Nat.mul_add]
    refine (Nat.add_comm _ _).trans (congrArg₂ (· + ·) ?_ rfl)
    unfold tally
    rw [tallyAt_apply]
    by_cases h : l = p.1 ∧ c = nb d (tg p.1 p.2) ∧ s = nb d (sl p.1 p.2)
    · rw [if_pos h, Nat.mul_one, if_pos ⟨by rw [h.2.1, h.2.2, h.1], rfl⟩]
    · rw [if_neg h, Nat.mul_zero, if_neg fun e => h (recv_eq e.1)]

theorem paid_once (c : Dev nD) (p : Pk) :
    ∑ d : Dev nD, (sends.map fun q => if p.1 = q.1 ∧ c = nb d (tg q.1 q.2) ∧ nb c (rr p.1 p.2) = nb d (sl q.1 q.2) then 1 else 0).sum = 1 := by
  obtain ⟨l, k⟩ := p; revert c l k; decide +kernel

theorem owed_recv (d c : Dev nD) (p : Pk) : O₀ d (cellR c p) () = dues d sends (cellR c p) () := by
  unfold O₀ dueBar
  simp only [Pi.add_apply, Finsupp.add_apply]
  rw [tallyAt_ne_cell (fun h => bar_ne_recv _ _ _ _ h.symm), tallyAt_ne_cell (fun h => bar_ne_recv _ _ _ _ h.symm), tallyAt_ne_cell (fun h => bar_ne_recv _ _ _ _ h.symm)]
  rfl

theorem dues_bar (d c : Dev nD) : dues d sends (barC c) () = 0 :=
  Nat.eq_zero_of_not_pos fun h => by
    obtain ⟨p, -, e⟩ := dues_pos d sends (barC c) () h
    exact bar_ne_recv _ _ _ _ e

theorem bar_at (d c : Dev nD) (j : Fin 3) : dueBar d j (barC c) () = if c = nb d (nbr j) then 1 else 0 := by
  unfold dueBar; rw [tallyAt_apply]
  by_cases h : c = nb d (nbr j)
  · rw [if_pos h, if_pos ⟨by rw [h], rfl⟩]
  · rw [if_neg h, if_neg fun e => h (dev_of e.1)]

theorem owed_bar (d c : Dev nD) : O₀ d (barC c) () = (if c = nb d (nbr 2) then 1 else 0) + (if c = nb d (nbr 1) then 1 else 0) + if c = nb d (nbr 0) then 1 else 0 := by
  unfold O₀
  simp only [Pi.add_apply, Finsupp.add_apply]
  rw [dues_bar, bar_at, bar_at, bar_at, Nat.zero_add]

theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c : Dev nD) (p : Pk) :
    tallyOn (cellR c p) (launchCredit (Pipeline.owing O₀) 0 (cellR c p)) = (tallyAt (cellR c p) () N : CellTallies nD τ sig Unit) := by
  unfold tallyAt; refine congrArg _ (Finsupp.ext fun u => ?_); cases u
  rw [Pipeline.launchCredit_owing, Finsupp.single_eq_same, Finset.sum_congr rfl fun d _ => (owed_recv d c p).trans (dues_at d sends _ _ _), ← Finset.mul_sum,
    paid_once, Nat.mul_one]

noncomputable def semR (c : Dev nD) : Pk ↪ SemLoc sig := ⟨fun p => .dma (recvS p.1 (nb c (rr p.1 p.2))), fun p q h =>
  congrArg Prod.snd (embR'.injective (a₁ := (c, p)) (a₂ := (c, q)) (congrArg (fun s => (((c : Thread nD τ), s) : GSem nD τ sig)) h))⟩

/-- The credit a device waits with. -/
def credits (c : Dev nD) : sProp 𝕄 :=
  iprop(cred (tallyAt (barC c) () 3) ∗ bigSep Finset.univ fun p : Pk => cred (tallyAt (cellR c p) () N))

theorem credits_intro (c : Dev nD) : (Pipeline.launchCred O₀ c : sProp 𝕄) ⊢ credits c := by
  unfold Pipeline.launchCred credits
  rw [bigSep_univ_at _ (SemLoc.reg barS), launch_bar]
  refine sep_mono_right ((bigSep_subset (t := Finset.univ.map (semR c)) fun s hs => ?_).trans ?_)
  · obtain ⟨p, -, rfl⟩ := Finset.mem_map.mp hs
    exact Finset.mem_erase.mpr ⟨fun h => bar_ne_recv c c _ p.1 (congrArg (fun s => (((c : Thread nD τ), s) : GSem nD τ sig)) h).symm, Finset.mem_univ _⟩
  · rw [bigSep_map]
    exact Entails.of_eq (bigSep_congr fun p _ => congrArg _ (launch_recv c p))

/-! ## Every device's share -/

section Share
variable (I : Ins F)

def records (κ : GSem nD τ sig → ℕ) : sProp 𝕄 :=
  iprop((bigSep (barCells ∪ offCells) fun g => cellInv ER (rd I) (κ g) g) ∗ bigSep barCells fun g => reached ER g 0)
instance records_persistent (κ : GSem nD τ sig → ℕ) : BI.Persistent (records I κ) := by unfold records; infer_instance

theorem inv_at (κ : GSem nD τ sig → ℕ) {g : GSem nD τ sig} (h : g ∈ barCells ∪ offCells) :
    (records I κ : sProp 𝕄) ⊢ cellInv ER (rd I) (κ g) g := by
  have h' : (bigSep (barCells ∪ offCells) fun g => (cellInv ER (rd I) (κ g) g : sProp 𝕄)) ⊢ cellInv ER (rd I) (κ g) g := bigSep_elim h
  unfold records
  iintro ⟨H, -⟩
  iapply h' $$ H
theorem reached_at (κ : GSem nD τ sig → ℕ) (c : Dev nD) : (records I κ : sProp 𝕄) ⊢ reached ER (barC c) 0 := by
  have h' : (bigSep barCells fun g => (reached ER g 0 : sProp 𝕄)) ⊢ reached ER (barC c) 0 := bigSep_elim (Finset.mem_map_of_mem embB (Finset.mem_univ c))
  unfold records
  iintro ⟨-, H⟩
  iapply h' $$ H

/-- What stays with device `c`: its barrier position, the rights to open its cells, the tokens of its own duties, its credit. -/
def linear (c : Dev nD) : sProp 𝕄 := iprop(atPos ER (barC c) 0 ∅ 0 ∗ openToks c ∗ ownToks c ∗ credits c)

theorem bar_share (κ : GSem nD τ sig → ℕ) (c : Dev nD) (j : Fin 3) :
    iprop(records I κ ∗ dutyTok ER (barC (nb c (nbr j))) 0 j) ⊢ barNb I κ c j := by
  unfold barNb
  iintro ⟨#HR, Ht⟩
  isplitr; · iapply (inv_at I κ (bar_mem _)); iexact HR
  isplitl [Ht]; · iexact Ht
  iapply (reached_at I κ _); iexact HR

theorem send_share (κ : GSem nD τ sig → ℕ) (c : Dev nD) :
    iprop(records I κ ∗ ((bigSep Finset.univ fun p : Pk => dutyTok ER (cellS c p) 0 0) ∗ (bigSep Finset.univ fun p : Pk => dutyTok ER (cellT c p) 0 0)
      ∗ bigSep Finset.univ fun p : Pk => openTok ER (cellS c p))) ⊢ bigSep Finset.univ fun p : Pk => sendOff I κ c p := by
  rw [← bigSep_sep', ← bigSep_sep']
  refine bigSep_with_persistent fun p _ => ?_
  have h : iprop(records I κ ∗ (dutyTok ER (cellS c p) 0 0 ∗ dutyTok ER (cellT c p) 0 0 ∗ openTok ER (cellS c p))) ⊢ sendOff I κ c p := by
    unfold sendOff
    iintro ⟨#HR, Hs, Ht, Ho⟩
    isplitr; · iapply (inv_at I κ (send_mem c p)); iexact HR
    isplitr; · iapply (inv_at I κ (g := cellT c p) (by rw [cellT_eq]; exact recv_mem _ p)); iexact HR
    isplitl [Hs]; · iexact Hs
    isplitl [Ht] <;> iassumption
  exact h
theorem recv_share (κ : GSem nD τ sig → ℕ) (c : Dev nD) :
    iprop(records I κ ∗ ((bigSep Finset.univ fun p : Pk => cred (tallyAt (cellR c p) () N)) ∗ bigSep Finset.univ fun p : Pk => openTok ER (cellR c p)))
      ⊢ bigSep Finset.univ fun p : Pk => recvOff I κ c p := by
  rw [← bigSep_sep']
  refine bigSep_with_persistent fun p _ => ?_
  have h : iprop(records I κ ∗ (cred (tallyAt (cellR c p) () N) ∗ openTok ER (cellR c p))) ⊢ recvOff I κ c p := by
    unfold recvOff
    iintro ⟨#HR, Hc, Ho⟩
    isplitr; · iapply (inv_at I κ (recv_mem c p)); iexact HR
    isplitl [Hc] <;> iassumption
  exact h

theorem bigSep_three (Φ : Fin 3 → sProp 𝕄) : bigSep Finset.univ Φ = iprop(Φ 0 ∗ Φ 1 ∗ Φ 2) :=
  bigSep_univ_eq_bigSepL [(0 : Fin 3), 1, 2] (by decide) (by decide) Φ

theorem dormant_intro (κ : GSem nD τ sig → ℕ) (c : Dev nD) : iprop(records I κ ∗ linear c) ⊢ dormant I κ c := by
  unfold linear dormant openToks ownToks credits barKit
  rw [bigSep_three]
  iintro ⟨#HR, Hat, ⟨HoS, HoR⟩, ⟨⟨Hb0, Hb1, Hb2⟩, HtS, HtT⟩, HcB, HcR⟩
  isplitl [Hat Hb0 Hb1 Hb2 HcB]
  · isplitr; · iapply (inv_at I κ (bar_mem c)); iexact HR
    isplitl [HcB]; · iexact HcB
    isplitl [Hat]; · iexact Hat
    isplitl [Hb0]
    · iapply (bar_share I κ c 0); isplitr; · iexact HR
      iexact Hb0
    isplitl [Hb1]
    · iapply (bar_share I κ c 1); isplitr; · iexact HR
      iexact Hb1
    iapply (bar_share I κ c 2); isplitr; · iexact HR
    iexact Hb2
  isplitl [HoS HtS HtT]
  · iapply (send_share I κ c); isplitr; · iexact HR
    isplitl [HtS]; · iexact HtS
    isplitl [HtT] <;> iassumption
  iapply (recv_share I κ c); isplitr; · iexact HR
  isplitl [HcR] <;> iassumption

theorem dormant_some (κ : GSem nD τ sig → ℕ) (c : Dev nD) : iprop(records I κ ∗ linear c) ⊢ iprop(∃ K, dormant I K c) := by
  iintro H
  iexists κ
  iapply (dormant_intro I κ c) $$ H

/-- The launch's element of the protocol, and all of it dealt from the barrier counters at zero. -/
noncomputable abbrev elem : UB := launchOf barCells offCells toks

theorem fund : iprop((bigSep Finset.univ fun c : Dev nD => (semVal (barC c) 0 : sProp 𝕄)) ∗ BI.own (ER elem) ∗ bigSep Finset.univ fun c : Dev nD => credits c)
    ⊢ (|={Set.univ}=> bigSep Finset.univ fun c : Dev nD => iprop(∃ K, dormant I K c) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) embB (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) embB (Φ := fun g : GSem nD τ sig => (atPos ER g 0 ∅ 0 : sProp 𝕄)))
  iintro ⟨Hv, Hu, Hc⟩
  imod (Rounds.fund_launch ER (rd I) disj_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records I κ) (Φ := fun c : Dev nD => linear c) fun c _ => dormant_some I κ c)
  isplitr
  · unfold records
    isplitr; · iexact Hinv
    iexact Hr
  unfold linear
  iapply pairs; isplitl [Hat]; · iapply hat $$ Hat
  iapply pairs; isplitl [Hopen]; · iapply (Entails.of_eq (openToks_eq (F := F))) $$ Hopen
  iapply pairs; isplitl [Htok]; · iapply (Entails.of_eq (toks_eq (F := F))) $$ Htok
  iexact Hc

end Share

end Cert.KernelIdeal.Own
-- ==== Proof.Launch.lean ====
/- The region's record, the launch, and the run: every execution terminates with the arguments unchanged, the result at its value and
   every semaphore counter at zero. -/
module

public import proofs.«01_k».proof.Proof.Region
public import proofs.«01_k».proof.Proof.Ghost
public import Idealize.ShloMosaic.Lib.Quiescent

@[expose] public section

noncomputable section

namespace Cert.KernelIdeal.Own

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The region's record -/

/-- What the launch keeps for the region. -/
def Tk (c : Dev nD) : sProp 𝕄 := iprop(∃ K, dormant (insOf m) K c)

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨%K, Hd⟩, ⟨Hz, Ho⟩, #Hl⟩
  imod (open_cells (insOf m) K c) $$ [Hd Hz] with Hc
  · isplitl [Hd] <;> iassumption
  imodintro
  isplitr; · iexact Hl
  isplitl [Hc]; · iexists K; iexact Hc
  iexact Ho

theorem held_none (c : Dev nD) (W : Valuation τ sig (Elt F)) : (StableHlo.held (c.tc : Thread nD τ) ∅ W : sProp 𝕄) = iprop(emp) := by
  unfold StableHlo.held
  exact bigSep_empty

theorem rest_eq (c : Dev nD) : (Pipeline.scopedRest (Pipeline.pin (pcfgs (F := F)) adm 0).spec c : sProp 𝕄) = scratch c :=
  (scopedRest0_eq c).trans rfl

theorem hin (c : Dev nD) : iprop(Pipeline.scopedRest (Pipeline.pin (pcfgs (F := F)) adm 0).spec c ∗ (∃ r, prngReg c r)
      ∗ StableHlo.held (c.tc : Thread nD τ) ∅ (V1 m c) ∗ Xk m c) ⊢ (pdats m 0 c).Φ 0 := by
  rw [show (pdats m 0 c).Φ 0 = iprop(Xk m c ∗ scratch c ∗ ∃ r, prngReg c r) from rfl, rest_eq]
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
        ∗ StableHlo.held (c.tc : Thread nD τ) ∅ (V2 m (outs m) c) ∗ Pipeline.ownSems0 osem c ∗ Yk c) := by
  rw [show (pdats m 0 c).Φ (Fin.last _) = iprop((Yk c ∗ zeros c ∗ own0 c) ∗ scratch c ∗ ∃ r, prngReg c r) from rfl, rest_eq, ownSems_eq, held_none]
  iintro ⟨⟨HY, Hz, Ho⟩, Hs, Hp⟩
  isplitl [Hs]; · iexact Hs
  isplitl [Hp]; · iexact Hp
  isplitr; · iempintro
  isplitl [Hz Ho]; · isplitl [Hz] <;> iassumption
  iexact HY

theorem rr_lv : ∀ l k, 0 < rlv (rr l k) := by decide

theorem O₀_lv (c : Dev nD) (g : GSem nD τ sig) (u : Unit) (h : 0 < O₀ c g u) : u ∈ L g ∧ (0 : ℕ) < lv g u := by
  cases u
  unfold O₀ at h
  simp only [Pi.add_apply, Finsupp.add_apply] at h
  have hb (j : Fin 3) (h : 0 < dueBar c j g ()) : () ∈ L g ∧ (0 : ℕ) < lv g () := by
    unfold dueBar at h
    rw [tallyAt_apply] at h
    split at h
    · next e => rw [e.1]; exact ⟨by rw [L_tc]; exact Finset.mem_singleton_self _, Nat.one_pos⟩
    · exact absurd h (Nat.lt_irrefl 0)
  rcases Nat.add_pos_iff_pos_or_pos.mp h with h | h
  · rcases Nat.add_pos_iff_pos_or_pos.mp h with h | h
    · rcases Nat.add_pos_iff_pos_or_pos.mp h with h | h
      · obtain ⟨p, -, rfl⟩ := dues_pos c sends g () h
        refine ⟨by rw [L_tc]; exact Finset.mem_singleton_self _, ?_⟩
        rw [lv_recv, rel_target]
        exact rr_lv p.1 p.2
      · exact hb 2 h
    · exact hb 1 h
  · exact hb 0 h

theorem cut (c : Dev nD) (t : Fin (cfg0.N + 1)) (g : GSem nD τ sig) (i : Unit) (h : 0 < (dat0 (F := F) m c).owed t g i) : i ∈ L g ∧ (0 : ℕ) < lv g i := by
  have e : (dat0 (F := F) m c).owed t = if t.val = 0 then O₀ c else 0 := rfl
  rw [e] at h
  split at h
  · exact O₀_lv c g i h
  · exact absurd h (Nat.lt_irrefl 0)

theorem stage_lv : ∀ (c : Dev nD) (w : Fin 6) (s : Fin (spec0 w).nbuf), lvOf c (role (.dma ((spec0 w).sem s))) = 0 := by
  have h : ∀ (w : Fin 6) (s : Fin (spec0 w).nbuf), role (.dma ((spec0 w).sem s)) = .other := by decide
  intro c w s; rw [h]; rfl

abbrev arrs : Finset (DevRef τ sig) := Pipeline.arrRefs (τ := τ) spec0
abbrev others : Finset (DevRef τ sig) := Pipeline.ucRefs τ sig \ arrs

theorem rest_kept (c : Dev nD) (b : DevRef τ sig) (h : b ∈ others \ ∅) : V2 m (outs m) c b = V1 m c b := by
  refine Function.update_of_ne (fun e => ?_) _ _
  subst e
  exact (Finset.mem_sdiff.mp (Finset.mem_sdiff.mp h).1).2 (by decide)

theorem arr_start (c : Dev nD) (w : Fin cfg0.W) : (dat0 m c).arrAt w 0 = V1 m c (Proc.devRef .tc (Pipeline.arrRef spec0 w)) := rfl

theorem v2_v20 (c : Dev nD) : V2 m (outs m) c main_v20 = outs m 2 main_v20 c := by simp only [V2, Function.update_self]

theorem arr_end (c : Dev nD) : ∀ w : Fin cfg0.W, (dat0 m c).arrAt w cfg0.N = V2 m (outs m) c (Proc.devRef .tc (Pipeline.arrRef spec0 w))
  | ⟨0, _⟩ => ((dat0 m c).arrAt_in 0 rfl _).trans (V2_of m (outs m) c main_v5 (by decide)).symm
  | ⟨1, _⟩ => ((dat0 m c).arrAt_in 1 rfl _).trans (V2_of m (outs m) c main_arg1 (by decide)).symm
  | ⟨2, _⟩ => ((dat0 m c).arrAt_in 2 rfl _).trans (V2_of m (outs m) c main_v17 (by decide)).symm
  | ⟨3, _⟩ => ((dat0 m c).arrAt_in 3 rfl _).trans (V2_of m (outs m) c main_v19 (by decide)).symm
  | ⟨4, _⟩ => ((dat0 m c).arrAt_in 4 rfl _).trans (V2_of m (outs m) c main_arg4 (by decide)).symm
  | ⟨5, _⟩ => (arr_5 m c).trans ((outs_v20 m c).symm.trans (v2_v20 m c).symm)

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) launch0.toP rfl (fun c => (body_ob m c).loose)
    (fun _ => 0) O₀ (fun c => (owed_first m c).trans (zero_add _).symm) (owed_last m) (fun _ => rfl) (fun c w => (dat0 m c).share_full (fun _ => rfl) w)
    (V1 m) (V2 m (outs m)) (rest_kept m)
    (Tk m) Yk (Xk m) Yk (hopen m) (hin m) (hout m)
    (fun c => by iintro H; imodintro; iexact H)
    (fun _ => 0)
    ⟨fun c w s => by rw [L_tc]; exact Finset.mem_singleton_self _, fun c w s => Nat.le_of_eq (stage_lv c w s), fun c t g i h => cut m c t g i h⟩
    (fun _ => iprop(emp))
    (arr_start m) (arr_end m)

theorem arrs_sub : arrs ⊆ Pipeline.ucRefs τ sig := Pipeline.arrRefs_sub_ucRefs spec0 (by decide)

/-- What rides beside the buffers: before the region, and after it. -/
def rest : Fin 2 → Dev nD → sProp 𝕄
  | 0, c => iprop(Tk m c ∗ (∃ r, prngReg c r) ∗ ∃ W, owes (c : Thread nD τ) (O₀ c) W)
  | 1, c => iprop(semVal (barC c) 0 ∗ ∃ W, owes (c : Thread nD τ) (0 : CellTallies nD τ sig Unit) W)

theorem reg_pre (c : Dev nD) : iprop(StableHlo.held (c : Thread nD τ) (Pipeline.ucRefs τ sig) (V1 m c) ∗ rest m 0 c) ⊢ (reg m).pre c := by
  show _ ⊢ iprop(StableHlo.held (c.tc : Thread nD τ) arrs (V1 m c) ∗ (∃ r, prngReg c r)
    ∗ (StableHlo.held (c.tc : Thread nD τ) others (V1 m c) ∗ emp) ∗ Tk m c ∗ ∃ Wd, owes (c : Thread nD τ) (0 + O₀ c) Wd)
  rw [zero_add, StableHlo.held_sub_split (c : Thread nD τ) arrs_sub]
  unfold rest
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem reg_post (c : Dev nD) : (reg m).post c ⊢ iprop(StableHlo.held (c : Thread nD τ) (Pipeline.ucRefs τ sig) (V2 m (outs m) c) ∗ rest m 1 c) := by
  show iprop(StableHlo.held (c.tc : Thread nD τ) arrs (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd) ⊢ _
  rw [StableHlo.held_sub_split (c : Thread nD τ) arrs_sub]
  unfold rest Yk
  iintro ⟨Ha, -, ⟨Ho, -⟩, Hb, HO⟩
  isplitl [Ha Ho]; · isplitl [Ha] <;> iassumption
  isplitl [Hb] <;> iassumption

/-! ## The launch -/

abbrev parts (c : Dev nD) : List (Pipeline.Seg (pcfgs (F := F)) adm (pdats m) () defs₀ 𝒱₀ L lv) :=
  segs m (outs m) 𝒱₀ L lv (rest m) () (pdats m) (reg m) c

/-- All of a resource on the first device. -/
def atFirst (X : sProp 𝕄) (c : Dev nD) : sProp 𝕄 := if c = 0 then X else iprop(emp)
theorem bigSep_atFirst (X : sProp 𝕄) : bigSep Finset.univ (atFirst X) = X := by
  rw [bigSep_univ_at _ (0 : Dev nD), bigSep_congr (s := Finset.univ.erase (0 : Dev nD)) (Ψ := fun _ => (BI.emp : sProp 𝕄))
    fun c hc => by unfold atFirst; rw [if_neg (Finset.ne_of_mem_erase hc)]; rfl, BI.bigSep_emp_const]
  unfold atFirst; rw [if_pos rfl]
  exact BI.equiv_iff.mp sep_emp

def u₀ : UU := (initOf (Pipeline.cells cfgs cellOf_inj) (Pipeline.launchToks cfgs cellOf_inj), elem)

theorem unscopedSems_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

theorem start_at (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ atFirst (BI.own (ER elem)) c)
      ⊢ (iprop((StableHlo.held (c : Thread nD τ) (Pipeline.ucRefs τ sig) (V0 m c) ∗ (∃ r, prngReg c r) ∗ ∃ W, owes (c : Thread nD τ) (O₀ c) W)
          ∗ semVal (barC c) 0 ∗ atFirst (BI.own (ER elem)) c ∗ credits c) : sProp 𝕄) := by
  rw [← Pipeline.unscopedBufs_held (Ix := Unit) (Name := ℕ) (U := UU) (Lvl := ℕ) c (V0 m c), unscopedSems_eq]
  iintro ⟨Hh, Hs, HO, Hc, Hp, HG⟩
  isplitl [Hh HO Hp]
  · isplitl [Hh]; · iexact Hh
    isplitl [Hp]; · iexists _; iexact Hp
    iexists ∅; iexact HO
  isplitl [Hs]; · iexact Hs
  isplitl [HG]; · iexact HG
  iapply (credits_intro (F := F) c) $$ Hc

theorem init :
    iprop((bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ atFirst (BI.own (ER elem)) c)) ∗ levAts L lv)
      ⊢ (|={Set.univ}=> bigSep Finset.univ fun c : Dev nD => iprop(StableHlo.held (c : Thread nD τ) (Pipeline.ucRefs τ sig) (V0 m c) ∗ rest m 0 c) : sProp 𝕄) := by
  have h1 : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ atFirst (BI.own (ER elem)) c))
      ⊢ (iprop((bigSep Finset.univ fun c : Dev nD => iprop(StableHlo.held (c : Thread nD τ) (Pipeline.ucRefs τ sig) (V0 m c) ∗ (∃ r, prngReg c r)
            ∗ ∃ W, owes (c : Thread nD τ) (O₀ c) W))
          ∗ (bigSep Finset.univ fun c : Dev nD => semVal (barC c) 0) ∗ BI.own (ER elem) ∗ bigSep Finset.univ fun c : Dev nD => credits c) : sProp 𝕄) := by
    have e : (bigSep Finset.univ fun c : Dev nD => iprop((StableHlo.held (c : Thread nD τ) (Pipeline.ucRefs τ sig) (V0 m c) ∗ (∃ r, prngReg c r)
            ∗ ∃ W, owes (c : Thread nD τ) (O₀ c) W) ∗ semVal (barC c) 0 ∗ atFirst (BI.own (ER elem)) c ∗ credits c))
        = (iprop((bigSep Finset.univ fun c : Dev nD => iprop(StableHlo.held (c : Thread nD τ) (Pipeline.ucRefs τ sig) (V0 m c) ∗ (∃ r, prngReg c r)
            ∗ ∃ W, owes (c : Thread nD τ) (O₀ c) W))
          ∗ (bigSep Finset.univ fun c : Dev nD => semVal (barC c) 0) ∗ (bigSep Finset.univ (atFirst (BI.own (ER elem))))
          ∗ bigSep Finset.univ fun c : Dev nD => credits c) : sProp 𝕄) := by
      simp only [bigSep_sep']
    rw [bigSep_atFirst] at e
    rw [← e]
    exact bigSep_mono fun c _ => start_at m ρ c
  have h2 : iprop((bigSep Finset.univ fun c : Dev nD => iprop(StableHlo.held (c : Thread nD τ) (Pipeline.ucRefs τ sig) (V0 m c) ∗ (∃ r, prngReg c r)
            ∗ ∃ W, owes (c : Thread nD τ) (O₀ c) W)) ∗ bigSep Finset.univ fun c : Dev nD => Tk m c)
      ⊢ (bigSep Finset.univ fun c : Dev nD => iprop(StableHlo.held (c : Thread nD τ) (Pipeline.ucRefs τ sig) (V0 m c) ∗ rest m 0 c) : sProp 𝕄) := by
    rw [← bigSep_sep']
    refine bigSep_mono fun c _ => ?_
    have h : (iprop((StableHlo.held (c : Thread nD τ) (Pipeline.ucRefs τ sig) (V0 m c) ∗ (∃ r, prngReg c r) ∗ ∃ W, owes (c : Thread nD τ) (O₀ c) W) ∗ Tk m c) : sProp 𝕄)
        ⊢ iprop(StableHlo.held (c : Thread nD τ) (Pipeline.ucRefs τ sig) (V0 m c) ∗ rest m 0 c) := by
      unfold rest
      iintro ⟨⟨Hh, Hp, HO⟩, HT⟩
      isplitl [Hh]; · iexact Hh
      isplitl [HT]; · iexact HT
      isplitl [Hp] <;> iassumption
    exact h
  iintro ⟨H, -⟩
  ihave H' := h1 $$ H
  icases H' with ⟨Hb, Hs⟩
  imod (fund (insOf m)) $$ Hs with HT
  imodintro
  iapply h2
  isplitl [Hb]; · iexact Hb
  iexact HT

theorem uc_mem (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

set_option backward.isDefEq.respectTransparency.types false in
/-- From any memory with zero counters every execution terminates; every buffer outside the region then holds what the host operations
    and the region leave there, and every counter is zero. -/
theorem run_all : θ_run defs (onTc (τ := τ) (main (F := F))) ⟨m, fun _ => 0, ρ⟩
    (fun r => (∀ c : Dev nD, ∀ b ∈ Pipeline.ucRefs τ sig, r.2.mem (c, b) = V3 m (outs m) c b) ∧ r.2.sem = fun _ => 0) :=
  Pipeline.θ_run_regions_kit_dev_sems (pcfgs (F := F)) adm (pdats m) () cellOf_inj EP defs₀ 𝒱₀ L lv m ρ main (parts m)
    (fun c Q => by
      rewrite [main_chain c, Pipeline.Seg.run_eq_chain,
        show (parts m c).map Pipeline.Seg.prog = [StableHlo.seq (hostOps0 c), Prog.lift (.customCall (Pipeline.entry 0) ()), StableHlo.seq hostOps1] from rfl]
      dsimp (config := { failIfUnchanged := false }) only
      exact .rfl)
    (fun c => by simp only [parts, segs, Pipeline.Seg.pipes_host, Pipeline.Seg.pipes_region, Pipeline.Seg.pipes_nil]; decide)
    O₀ L_of_ne (atFirst (BI.own (ER elem))) u₀
    (by
      unfold u₀
      iintro Hu
      ihave H := (ownU_pair _ _) $$ Hu
      icases H with ⟨HP, HX⟩
      imodintro
      isplitl [HP]; · iexact HP
      rw [bigSep_atFirst]; iexact HX)
    (T₀ := fun c => iprop(StableHlo.held (c : Thread nD τ) (Pipeline.ucRefs τ sig) (V0 m c) ∗ rest m 0 c))
    (Tₙ := fun c => iprop(StableHlo.held (c : Thread nD τ) (Pipeline.ucRefs τ sig) (V3 m (outs m) c) ∗ semVal (barC c) 0))
    (hch := fun c => ⟨.rfl, reg_pre m c, reg_post m c, by
      show iprop(StableHlo.held (c : Thread nD τ) (Pipeline.ucRefs τ sig) (V3 m (outs m) c)
          ∗ (semVal (barC c) 0 ∗ ∃ W, owes (c : Thread nD τ) (0 : CellTallies nD τ sig Unit) W))
        ⊢ iprop((StableHlo.held (c : Thread nD τ) (Pipeline.ucRefs τ sig) (V3 m (outs m) c) ∗ semVal (barC c) 0)
          ∗ ∃ W, owes (c : Thread nD τ) (0 : CellTallies nD τ sig Unit) W)
      iintro ⟨Hh, Hb, HO⟩
      isplitr [HO]
      · isplitl [Hh] <;> iassumption
      · iexact HO⟩)
    (hinit := init m ρ)
    (QY := fun c s => (∀ b ∈ Pipeline.ucRefs τ sig, s.mem (c, b) = V3 m (outs m) c b) ∧ s.sem (barC c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1, sem_eq_zero hs fun c sm hsm => by
      obtain rfl := unscoped_eq sm hsm
      exact (h c).2⟩)

/-- The run as the claims read it: the arguments unchanged, the result as the last host operation leaves it, the counters zero. -/
theorem run_main : θ_run defs (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.mem ((c.tc : Thread nD τ).loc main_v21) = V3 m (outs m) c main_v21) ∧ r.2.sem = fun _ => 0) :=
  (θ_run defs _ _).mono (fun _ h => ⟨fun c => ⟨⟨(h.1 c _ (uc_mem main_arg0 rfl)).trans (V3_main_arg0 m (outs m) c),
    (h.1 c _ (uc_mem main_arg1 rfl)).trans (V3_main_arg1 m (outs m) c), (h.1 c _ (uc_mem main_arg2 rfl)).trans (V3_main_arg2 m (outs m) c),
    (h.1 c _ (uc_mem main_arg3 rfl)).trans (V3_main_arg3 m (outs m) c), (h.1 c _ (uc_mem main_arg4 rfl)).trans (V3_main_arg4 m (outs m) c)⟩,
    h.1 c _ (uc_mem main_v21 rfl)⟩, h.2⟩) (run_all m ρ)

end Cert.KernelIdeal.Own
-- ==== Proof.Frames.lean ====
/- The frames of the kernel and of its idealization, both read off the one run of `Launch.lean`. -/
module

public import proofs.«01_k».proof.Defs
public import proofs.«01_k».proof.Proof.Gen.Kernel
public import proofs.«01_k».proof.Proof.Launch

@[expose] public section

noncomputable section

namespace Cert.KernelIdeal.Own

open Idealize.ShloMosaic Idealize.SL.Sem Cert.KernelIdeal Cert.KernelIdeal.Gen

/-- The frame for any float values. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).1, h.2⟩) (run_main m ρ)

/-- The two programs' kernels are the same table. -/
theorem kernels_eq {F : FTy → Type} [FloatOps F] : Cert.Kernel.defs₀ (F := F) = Cert.KernelIdeal.defs₀ (F := F) := by
  unfold Cert.Kernel.defs₀ Cert.KernelIdeal.defs₀
  congr 1
  funext l a
  match l, a with
  | 0, (t, s) => rfl

/-- The two programs' whole tables are the same. -/
theorem tables_eq {F : FTy → Type} [FloatOps F] : Cert.Kernel.defs (F := F) = Cert.KernelIdeal.defs (F := F) := by
  unfold Cert.Kernel.defs Cert.KernelIdeal.defs
  rw [kernels_eq]
  rfl

/-- The kernel's frame: the run at machine floats. -/
theorem frame_kernel : Cert.quiescent_Kernel := fun m ρ _ => by
  rw [tables_eq]
  exact frame (F := Bits) m ρ

/-- The idealized kernel's frame: the run at extended reals. -/
theorem frame_ideal : Cert.quiescent_KernelIdeal := fun m ρ _ => frame (F := Ideal) m ρ

end Cert.KernelIdeal.Own
-- ==== Proof.RefFrame.lean ====
/- The frame of the idealized reference. -/
module

public import proofs.«01_k».proof.Defs
public import proofs.«01_k».proof.Proof.Gen.ReferenceIdeal.Run
public import Idealize.ShloMosaic.Lib.Quiescent

@[expose] public section

noncomputable section

namespace Cert.ReferenceIdeal.Own

open Idealize.ShloMosaic Idealize.SL.Sem Cert.ReferenceIdeal.Gen

/-- The reference runs, leaves its arguments, and has no semaphore to leave anything on. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.ReferenceIdeal.Own
-- ==== Proof.Row.lean ====
/- One row of attention over the extended reals: weights normalised after the sum, without subtracting the row's maximum,
   against weights normalised before it, with the maximum subtracted. -/
module

public import Idealize.ShloMosaic.PureOps.Ideal

@[expose] public section

noncomputable section

namespace Cert.Own

open Idealize.ShloMosaic

variable {n : ℕ} (r : Fin n → ℝ) (keep : Fin n → Prop) [DecidablePred keep] (v : Fin n → EReal)

/-- The row as the kernel computes it: the products summed, then scaled by the reciprocal of the weights' sum. -/
def rowAfter (s : Fin n → EReal) (v : Fin n → EReal) : EReal :=
  (∑ j, Ideal.exp (s j) * (if keep j then 1 else 0) * v j)
    * Ideal.div 1 (∑ j, Ideal.exp (s j) * (if keep j then 1 else 0))

/-- A masked score. -/
def masked (s : Fin n → EReal) (j : Fin n) : EReal := if keep j then s j else ⊥

/-- The exponential of a masked score less the row's maximum. -/
def shifted (s : Fin n → EReal) (j : Fin n) : EReal :=
  Ideal.exp (masked keep s j - Finset.univ.fold max ⊥ fun k => masked keep s k)

/-- The row as the reference computes it: each weight divided by the sum, then the products summed. -/
def rowBefore (s : Fin n → EReal) (v : Fin n → EReal) : EReal :=
  ∑ j, v j * Ideal.div (shifted keep s j) (∑ k, shifted keep s k)

/-- A real weight: the exponential where the pattern keeps it. -/
def wt (j : Fin n) : ℝ := if keep j then Real.exp (r j) else 0

theorem wt_nonneg (j : Fin n) : 0 ≤ wt r keep j := by
  unfold wt
  split_ifs
  · exact (Real.exp_pos _).le
  · exact le_rfl

theorem wt_sum_pos {j0 : Fin n} (h0 : keep j0) : 0 < ∑ j, wt r keep j := by
  refine Finset.sum_pos' (fun j _ => wt_nonneg r keep j) ⟨j0, Finset.mem_univ _, ?_⟩
  unfold wt
  rw [if_pos h0]
  exact Real.exp_pos _

theorem exp_keep (j : Fin n) : Ideal.exp (r j : EReal) * (if keep j then 1 else 0) = ((wt r keep j : ℝ) : EReal) := by
  unfold wt
  split_ifs
  · rw [mul_one, Ideal.exp_coe]
  · rw [mul_zero, EReal.coe_zero]

theorem coe_sum (f : Fin n → ℝ) : (∑ j, (f j : EReal)) = ((∑ j, f j : ℝ) : EReal) :=
  (map_sum (⟨⟨Real.toEReal, EReal.coe_zero⟩, EReal.coe_add⟩ : ℝ →+ EReal) f Finset.univ).symm

/-- The row's maximum is a real. -/
theorem max_real {j0 : Fin n} (h0 : keep j0) :
    ∃ M : ℝ, (Finset.univ.fold max ⊥ fun k => masked keep (fun k => (r k : EReal)) k) = (M : EReal) := by
  refine ⟨_, (EReal.coe_toReal ?_ ?_).symm⟩
  · refine ne_of_lt ((Finset.fold_max_lt _).2 ⟨bot_lt_top, fun k _ => ?_⟩)
    unfold masked
    split_ifs
    · exact EReal.coe_lt_top _
    · exact bot_lt_top
  · refine ne_of_gt ((Finset.lt_fold_max _).2 (.inr ⟨j0, Finset.mem_univ _, ?_⟩))
    unfold masked
    rw [if_pos h0]
    exact EReal.bot_lt_coe _

theorem shifted_eq {M : ℝ} (hM : (Finset.univ.fold max ⊥ fun k => masked keep (fun k => (r k : EReal)) k) = (M : EReal))
    (j : Fin n) : shifted keep (fun k => (r k : EReal)) j = ((wt r keep j * Real.exp (-M) : ℝ) : EReal) := by
  unfold shifted
  rw [hM]
  unfold masked wt
  split_ifs
  · rw [← EReal.coe_sub, Ideal.exp_coe, sub_eq_add_neg, Real.exp_add]
  · rw [EReal.bot_sub, Ideal.exp_bot, zero_mul, EReal.coe_zero]

/-- A real factor that is not negative comes out of a sum. -/
theorem sum_mul_coe (f : Fin n → EReal) {a : ℝ} (ha : 0 ≤ a) : (∑ j, f j) * (a : EReal) = ∑ j, f j * (a : EReal) := by
  induction (Finset.univ : Finset (Fin n)) using Finset.cons_induction with
  | empty => rw [Finset.sum_empty, Finset.sum_empty, zero_mul]
  | cons j s hj ih =>
      rw [Finset.sum_cons, Finset.sum_cons, ← ih,
        EReal.right_distrib_of_nonneg_of_ne_top (EReal.coe_nonneg.2 ha) (EReal.coe_ne_top a)]

/-- The two rows are equal where every score is a real and the pattern keeps some key. -/
theorem row_real {j0 : Fin n} (h0 : keep j0) :
    rowAfter keep (fun k => (r k : EReal)) v = rowBefore keep (fun k => (r k : EReal)) v := by
  obtain ⟨M, hM⟩ := max_real r keep h0
  have hE := wt_sum_pos r keep h0
  have hx := Real.exp_pos (-M)
  unfold rowAfter rowBefore
  simp only [exp_keep, shifted_eq r keep hM]
  rw [coe_sum, coe_sum, ← Finset.sum_mul, Ideal.div_coe hE.ne', one_mul, sum_mul_coe _ (one_div_pos.2 hE).le]
  refine Finset.sum_congr rfl fun j _ => ?_
  rw [Ideal.div_coe (mul_pos hE hx).ne', mul_comm (_ : EReal) (v j), mul_assoc, ← EReal.coe_mul, ← EReal.coe_mul]
  congr 2
  field_simp

theorem row_eq (s : Fin n → EReal) (hs : ∀ j, ∃ a : ℝ, s j = (a : EReal)) {j0 : Fin n} (h0 : keep j0) :
    rowAfter keep s v = rowBefore keep s v := by
  choose a ha using hs
  obtain rfl : s = fun k => (a k : EReal) := funext ha
  exact row_real a keep v h0

end Cert.Own
-- ==== Proof.Spec.lean ====
/- The mathematics both programs are compared with, index by index: the block-sparse pattern, the scores, and the two
   orders of normalising the attention. -/
module

public import proofs.«01_k».proof.Proof.Row
public import Idealize.ShloMosaic.Lib.Pointwise.Index

@[expose] public section

noncomputable section

namespace Cert.Own

open Idealize.ShloMosaic

/-- The whole arrays. -/
structure Arrays where
  x : FVec Ideal ⟨3, ![16, 128, 512]⟩ .f32
  wq : FVec Ideal ⟨2, ![512, 2048]⟩ .f32
  k : FVec Ideal ⟨4, ![16, 128, 32, 64]⟩ .f32
  v : FVec Ideal ⟨4, ![16, 128, 32, 64]⟩ .f32
  wo : FVec Ideal ⟨2, ![2048, 512]⟩ .f32

/-- The pattern: the first block of keys is seen by every query, the second by the second block of queries only. -/
def Keep (i j : Fin 128) : Prop := j.val < 64 ∨ 64 ≤ i.val

instance (i : Fin 128) : DecidablePred (Keep i) := fun j => inferInstanceAs (Decidable (j.val < 64 ∨ 64 ≤ i.val))

theorem keep_first (i : Fin 128) : Keep i 0 := .inl (by decide)

/-- Column `d` of head `h`. -/
def col (h : Fin 32) (d : Fin 64) : Fin 2048 := ⟨h.val * 64 + d.val, by omega⟩

/-- One query element. -/
def query (A : Arrays) (b : Fin 16) (h : Fin 32) (i : Fin 128) (d : Fin 64) : EReal :=
  ∑ k : Fin 512, A.x (ix3 b i k) * A.wq (ix2 k (col h d))

/-- One scaled score. -/
def score (A : Arrays) (b : Fin 16) (h : Fin 32) (i j : Fin 128) : EReal :=
  (∑ d : Fin 64, query A b h i d * A.k (ix4 b j h d)) * Ideal.ofBits .f32 0x3E000000#32

/-- The result, for a given way `row` of computing one element of the attention output. -/
def result (row : Fin 16 → Fin 32 → Fin 64 → Fin 128 → EReal) (A : Arrays) (b : Fin 16) (i : Fin 128) (n : Fin 512) :
    EReal :=
  ∑ u : Fin 2048, row b ⟨u.val / 64, by omega⟩ ⟨u.val % 64, by omega⟩ i * A.wo (ix2 u n)

/-- An element of the attention output, normalised after the sum. -/
def ctxAfter (A : Arrays) (b : Fin 16) (h : Fin 32) (d : Fin 64) (i : Fin 128) : EReal :=
  rowAfter (Keep i) (score A b h i) fun j => A.v (ix4 b j h d)

/-- An element of the attention output, normalised before the sum. -/
def ctxBefore (A : Arrays) (b : Fin 16) (h : Fin 32) (d : Fin 64) (i : Fin 128) : EReal :=
  rowBefore (Keep i) (score A b h i) fun j => A.v (ix4 b j h d)

/-! ## Finite inputs -/

/-- An extended real that is a real. -/
def IsReal (a : EReal) : Prop := ∃ r : ℝ, a = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {n : ℕ} {f : Fin n → EReal} (h : ∀ j, IsReal (f j)) : IsReal (∑ j, f j) := by
  choose r hr using h
  obtain rfl : f = fun j => (r j : EReal) := funext hr
  exact ⟨_, coe_sum r⟩

theorem eighth_real : IsReal (Ideal.ofBits .f32 0x3E000000#32) :=
  ⟨_, by simp [Ideal.ofBits, Ideal.ieee, -EReal.coe_mul]; rfl⟩

/-- Where activations, query weights and keys are reals, every score is. -/
theorem score_real (A : Arrays) (hx : ∀ i, IsReal (A.x i)) (hq : ∀ i, IsReal (A.wq i)) (hk : ∀ i, IsReal (A.k i))
    (b : Fin 16) (h : Fin 32) (i j : Fin 128) : IsReal (score A b h i j) :=
  (IsReal.sum fun _ => (IsReal.sum fun _ => (hx _).mul (hq _)).mul (hk _)).mul eighth_real

/-- The two orders of normalising agree on finite scores. -/
theorem ctx_eq (A : Arrays) (hx : ∀ i, IsReal (A.x i)) (hq : ∀ i, IsReal (A.wq i)) (hk : ∀ i, IsReal (A.k i)) :
    ctxAfter A = ctxBefore A := by
  funext b h d i
  exact row_eq (Keep i) _ _ (fun j => score_real A hx hq hk b h i j) (keep_first i)

end Cert.Own
-- ==== Proof.HostValue.lean ====
/- The operands of the region and the kernel's result, read at an index of the launch's arrays. -/
module

public import proofs.«01_k».proof.Proof.Launch
public import proofs.«01_k».proof.Proof.Spec
public import Idealize.ShloMosaic.Lib.StableHlo.ReadAt
public import Idealize.ShloMosaic.Lib.Pointwise

@[expose] public section

set_option maxRecDepth 16384

noncomputable section

namespace Cert.KernelIdeal.Own

open Idealize.ShloMosaic Idealize.ShloMosaic.TcCoe Idealize.SL.Sem Cert.KernelIdeal Cert.KernelIdeal.Gen Cert.Own

variable (m : (ℓ : Loc nD τ sig) → Buf (Elt Ideal) ℓ)

theorem x_at (c : Fin 8) (b : Fin 2) (i : Fin 128) (k : Fin 512) :
    V1 m c main_v5 (ix2 (⟨128 * b.val + i.val, by omega⟩ : Fin 256) k) = m ((c : Thread nD τ).loc main_arg0) (ix3 b i k) := by
  unfold V1
  after_reads_at

/-- A slice whose starts are a batch's and zeros, read at an index. -/
theorem slice_at (X : S16x128x32x64.Idx → EReal) (c : Fin 8) (b : Fin 2) (j : Fin 128) (h : Fin 32) (d : Fin 64) (f : Fin 4 → ℤ)
    (h0 : f 0 = 2 * c.val) (h1 : f 1 = 0) (h2 : f 2 = 0) (h3 : f 3 = 0) (p0 p1 p2 p3) :
    X (ix4 ⟨Host.clampedStart S16x128x32x64 S2x128x32x64 rfl f 0 + b.val, p0⟩
        ⟨Host.clampedStart S16x128x32x64 S2x128x32x64 rfl f 1 + j.val, p1⟩
        ⟨Host.clampedStart S16x128x32x64 S2x128x32x64 rfl f 2 + (col h d).val / 64, p2⟩
        ⟨Host.clampedStart S16x128x32x64 S2x128x32x64 rfl f 3 + (col h d).val % 64, p3⟩)
      = X (ix4 (⟨2 * c.val + b.val, by omega⟩ : Fin 16) j h d) := by
  have hm : ∀ a : Fin 4, Host.clampedStart S16x128x32x64 S2x128x32x64 rfl f a = (![2 * c.val, 0, 0, 0] : Fin 4 → ℕ) a := by
    intro a
    have hc := c.isLt
    fin_cases a <;> refine Host.clampedStart_of_le _ _ _ _ ?_ ?_
    · simpa using h0
    · show 2 * c.val + 2 ≤ 16
      omega
    · simpa using h1
    · show 0 + 128 ≤ 128
      omega
    · simpa using h2
    · show 0 + 32 ≤ 32
      omega
    · simpa using h3
    · show 0 + 64 ≤ 64
      omega
  have e0 := hm 0
  have e1 := hm 1
  have e2 := hm 2
  have e3 := hm 3
  have hd := d.isLt
  have q : (col h d).val / 64 = h.val := by simp only [col]; omega
  have r : (col h d).val % 64 = d.val := by simp only [col]; omega
  congr 2 <;> refine Fin.ext ?_
  · exact (congrArg (· + b.val) e0).trans rfl
  · exact (congrArg (· + j.val) e1).trans (Nat.zero_add _)
  · exact (congrArg (· + (col h d).val / 64) e2).trans ((Nat.zero_add _).trans q)
  · exact (congrArg (· + (col h d).val % 64) e3).trans ((Nat.zero_add _).trans r)

/-- The device's batch, from its word: the device's number twice, already inside the array. -/
theorem word_start (c : Fin 8) :
    Scalar.select
        (IntOp.cmpi .slt (IntOp.muli (IntOp.remui .host (IntOp.divui .host (Dev.word c) 1#32) 8#32) 2#32) 0#32)
        (IntOp.addi (IntOp.muli (IntOp.remui .host (IntOp.divui .host (Dev.word c) 1#32) 8#32) 2#32) 16#32)
        (IntOp.muli (IntOp.remui .host (IntOp.divui .host (Dev.word c) 1#32) 8#32) 2#32)
      = BitVec.ofNat 32 (2 * c.val) := by
  revert c
  decide

theorem start_k (c : Fin 8) (i : S_.Idx) :
    (StableHlo.upto (hostOps0 c) (V0 m c) 17 (Proc.tc.devRef main_v9) : IVec S_ 32) i = BitVec.ofNat 32 (2 * c.val) := by
  after_reads_at
  exact word_start c

set_option maxHeartbeats 2000000 in
theorem start_v (c : Fin 8) (i : S_.Idx) :
    (StableHlo.upto (hostOps0 c) (V0 m c) 25 (Proc.tc.devRef main_v14) : IVec S_ 32) i = BitVec.ofNat 32 (2 * c.val) := by
  after_reads_at
  exact word_start c

theorem word_toInt (c : Fin 8) : (BitVec.ofNat 32 (2 * c.val)).toInt = 2 * (c.val : ℤ) := by revert c; decide

set_option maxHeartbeats 2000000 in
theorem k_at (c : Fin 8) (b : Fin 2) (j : Fin 128) (h : Fin 32) (d : Fin 64) :
    V1 m c main_v17 (ix3 b j (col h d))
      = m ((c : Thread nD τ).loc main_arg2) (ix4 (⟨2 * c.val + b.val, by omega⟩ : Fin 16) j h d) := by
  unfold V1
  after_reads_at
  refine slice_at _ c b j h d _ ?_ ?_ ?_ ?_ _ _ _ _
  · exact (congrArg BitVec.toInt (start_k m c (Shape.Idx.first h_S_))).trans (word_toInt c)
  all_goals rfl

set_option maxHeartbeats 2000000 in
theorem v_at (c : Fin 8) (b : Fin 2) (j : Fin 128) (h : Fin 32) (d : Fin 64) :
    V1 m c main_v19 (ix3 b j (col h d))
      = m ((c : Thread nD τ).loc main_arg3) (ix4 (⟨2 * c.val + b.val, by omega⟩ : Fin 16) j h d) := by
  unfold V1
  after_reads_at
  refine slice_at _ c b j h d _ ?_ ?_ ?_ ?_ _ _ _ _
  · exact (congrArg BitVec.toInt (start_v m c (Shape.Idx.first h_S_))).trans (word_toInt c)
  all_goals rfl

theorem wq_at (c : Dev nD) : V1 m c main_arg1 = m ((c : Thread nD τ).loc main_arg1) := V1_of m c main_arg1 (by decide)

theorem wo_at (c : Dev nD) : V1 m c main_arg4 = m ((c : Thread nD τ).loc main_arg4) := V1_of m c main_arg4 (by decide)

/-- The kernel's result is the region's, split into the two batches. -/
theorem out_at (c : Fin 8) (b : Fin 2) (i : Fin 128) (n : Fin 512) :
    V3 m (outs m) c main_v21 (ix3 b i n) = acc (insOf m) c 8 (ix2 (⟨128 * b.val + i.val, by omega⟩ : Fin 256) n) := by
  unfold V3
  after_reads_at
  rw [show (⟨b.val * 128 + i.val, by omega⟩ : Fin 256) = ⟨128 * b.val + i.val, by omega⟩ from Fin.ext (by simp only; omega)]
  exact congrFun ((v2_v20 m c).trans (outs_v20 m c)) _

end Cert.KernelIdeal.Own
-- ==== Proof.KerValue.lean ====
/- The kernel's values read at an index. -/
module

public import proofs.«01_k».proof.Proof.Geometry
public import proofs.«01_k».proof.Proof.Spec
public import Idealize.ShloMosaic.Lib.Pointwise

@[expose] public section

set_option maxRecDepth 16384

noncomputable section

namespace Cert.KernelIdeal.Own

open Idealize.ShloMosaic Idealize.SL.Sem Cert.KernelIdeal Cert.KernelIdeal.Gen Cert.Own

/-! ## The stages -/

theorem q_apply (x : Vec Ideal S256x512 .bf16) (w : Vec Ideal S1x512x256 .bf16) (i j : Fin 256) :
    qVal x w (ix2 i j) = ∑ k : Fin 512, x (ix2 i k) * w (ix3 0 k j) := by
  pointwise [qVal]

theorem flat_apply (k : Vec Ideal S1x128x256 .bf16) (j : Fin 128) (u : Fin 256) : flat k (ix2 j u) = k (ix3 0 j u) := by
  pointwise [flat]

/-- The row of pair `p`'s batch. -/
def rowOf (p : Fin 8) (i : Fin 128) : Fin 256 := ⟨128 * (p.val / 4) + i.val, by omega⟩

/-- The column of pair `p`'s head. -/
def colOf (p : Fin 8) (d : Fin 64) : Fin 256 := ⟨64 * (p.val % 4) + d.val, by omega⟩

theorem score_apply (q : FVec Ideal S256x256 .bf16) (k : FVec Ideal S128x256 .bf16) (p : Fin 8) (i j : Fin 128) :
    Own.score q k p (ix2 i j) = ∑ d : Fin 64, q (ix2 (rowOf p i) (colOf p d)) * k (ix2 j (colOf p d)) := by
  pointwise [Own.score]
  rfl

theorem scores_apply (q : FVec Ideal S256x256 .bf16) (k0 k1 : FVec Ideal S128x256 .bf16) (p : Fin 8) (i j : Fin 128) :
    scores q k0 k1 (ix3 p i j) = Own.score q (if p.val < 4 then k0 else k1) p (ix2 i j) := by
  pointwise [scores, layer]
  fin_cases p <;> rfl

theorem weights_apply (m : FVec Ideal S128x128 .f32) (s : FVec Ideal S8x128x128 .f32) (p : Fin 8) (i j : Fin 128) :
    weights m s (ix3 p i j) = Ideal.exp (s (ix3 p i j) * Ideal.ofBits .f32 0x3E000000#32) * m (ix2 i j) := by
  pointwise [weights]

theorem recip_apply (s : FVec Ideal S8x128x128 .f32) (p : Fin 8) (i : Fin 128) :
    recip s (ix3 p i 0) = Ideal.div 1 (∑ j : Fin 128, s (ix3 p i j)) := by
  pointwise [recip]

theorem tile_apply (v : FVec Ideal S128x256 .bf16) (eb : FVec Ideal S8x128x128 .bf16) (r : FVec Ideal S8x128x1 .f32)
    (p : Fin 8) (i : Fin 128) (d : Fin 64) :
    tile v eb r p (ix3 0 i d) = (∑ j : Fin 128, eb (ix3 p i j) * v (ix2 j (colOf p d))) * r (ix3 p i 0) := by
  pointwise [tile]
  rfl

theorem outProd_apply (c : Vec Ideal S1x256x256 .bf16) (w : Vec Ideal S1x256x512 .bf16) (i : Fin 256) (n : Fin 512) :
    outProd c w (ix2 i n) = ∑ u : Fin 256, c (ix3 0 i u) * w (ix3 0 u n) := by
  pointwise [outProd]

theorem outNext_apply (c : Vec Ideal S1x256x256 .bf16) (w : Vec Ideal S1x256x512 .bf16) (o : Vec Ideal S256x512 .f32)
    (i : Fin 256) (n : Fin 512) : outNext c w o (ix2 i n) = o (ix2 i n) + outProd c w (ix2 i n) := by
  pointwise [outNext]

/-! ## The mask -/

/-- The key's block, as the kernel computes it. -/
theorem kblk_apply (i j : Fin 128) : k0_pay7 (ix2 i j) = if j.val < 64 then 0#32 else 1#32 := by
  pointwise [k0_pay7]
  revert j; decide +kernel

/-- The query's block, as the kernel computes it. -/
theorem qblk_apply (i j : Fin 128) :
    k0_pay6 (iota .tc S128x128 32 [0] iota_S128x128_d0_w32) 64#32 k0_pay4 k0_pay5 (Scalar.cmpi .sgt 64#32 0#32) (ix2 i j)
      = if i.val < 64 then 0#32 else 1#32 := by
  pointwise [k0_pay6, k0_pay4, k0_pay5]
  revert i; decide +kernel

theorem bit_word (w : BitVec 32) : FloatOps.sitofp (F := Ideal) .f32 w = ((w.toInt : ℝ) : EReal) := rfl

theorem bit_one : FloatOps.sitofp (F := Ideal) .f32 1#32 = 1 := by
  rw [bit_word, show (1#32).toInt = 1 by decide, Int.cast_one, EReal.coe_one]

theorem bit_zero : FloatOps.sitofp (F := Ideal) .f32 0#32 = 0 := by
  rw [bit_word, show (0#32).toInt = 0 by decide, Int.cast_zero, EReal.coe_zero]

theorem mask_apply (i j : Fin 128) : maskVal (F := Ideal) (ix2 i j) = if Keep i j then 1 else 0 := by
  pointwise [maskVal, k0_pay11, k0_pay8, k0_pay9, k0_pay10]
  rw [qblk_apply, kblk_apply]
  by_cases hi : i.val < 64 <;> by_cases hj : j.val < 64
  · rw [if_pos hi, if_pos hj, if_pos (show Keep i j from .inl hj)]; exact bit_one
  · rw [if_pos hi, if_neg hj, if_neg (show ¬Keep i j from fun h => by unfold Keep at h; omega)]; exact bit_zero
  · rw [if_neg hi, if_pos hj, if_pos (show Keep i j from .inl hj)]; exact bit_one
  · rw [if_neg hi, if_neg hj, if_pos (show Keep i j from .inr (by omega))]; exact bit_one

/-! ## One tile of the attention output -/

/-- The blocks the devices hold, as parts of the whole arrays. -/
structure Cut (I : Ins Ideal) (A : Arrays) : Prop where
  x : ∀ (c : Dev nD) (b : Fin 2) (i : Fin 128) (k : Fin 512),
    I.x c (ix2 ⟨128 * b.val + i.val, by omega⟩ k) = A.x (ix3 ⟨2 * c.val + b.val, by have : c.val < 8 := c.isLt; omega⟩ i k)
  wq : ∀ (s : Dev nD) (k : Fin 512) (q : Fin 256),
    I.wq s (ix2 k q) = A.wq (ix2 k ⟨256 * s.val + q.val, by have : s.val < 8 := s.isLt; omega⟩)
  k : ∀ (c : Dev nD) (b : Fin 2) (j : Fin 128) (h : Fin 32) (d : Fin 64),
    I.k c (ix3 b j (col h d)) = A.k (ix4 ⟨2 * c.val + b.val, by have : c.val < 8 := c.isLt; omega⟩ j h d)
  v : ∀ (c : Dev nD) (b : Fin 2) (j : Fin 128) (h : Fin 32) (d : Fin 64),
    I.v c (ix3 b j (col h d)) = A.v (ix4 ⟨2 * c.val + b.val, by have : c.val < 8 := c.isLt; omega⟩ j h d)
  wo : ∀ (s : Dev nD) (q : Fin 256) (n : Fin 512),
    I.wo s (ix2 q n) = A.wo (ix2 ⟨256 * s.val + q.val, by have : s.val < 8 := s.isLt; omega⟩ n)

/-- The batch of pair `p` at device `c`. -/
def batchOf (c p : Fin 8) : Fin 16 := ⟨2 * c.val + p.val / 4, by omega⟩

/-- The head of pair `p` in block `s`. -/
def headOf (s p : Fin 8) : Fin 32 := ⟨4 * s.val + p.val % 4, by omega⟩

theorem pay1_apply (x : Vec Ideal S256x512 .f32) (i : Fin 256) (k : Fin 512) : k0_pay1 x (ix2 i k) = x (ix2 i k) := by
  pointwise [k0_pay1]

theorem pay2_apply (w : Vec Ideal S512x256 .f32) (k : Fin 512) (q : Fin 256) : k0_pay2 w (ix3 0 k q) = w (ix2 k q) := by
  pointwise [k0_pay2]

theorem pay3_apply (w : Vec Ideal S256x512 .f32) (q : Fin 256) (n : Fin 512) : k0_pay3 w (ix3 0 q n) = w (ix2 q n) := by
  pointwise [k0_pay3]

/-- Pair `p`'s keys or values of block `s`. -/
theorem kv_apply (k : FVec Ideal S2x128x2048 .bf16) (s p : Fin 8) (j : Fin 128) (d : Fin 64) :
    (if p.val < 4 then flat (kvBlk k 0 s) else flat (kvBlk k 1 s)) (ix2 j (colOf p d))
      = k (ix3 (⟨p.val / 4, by omega⟩ : Fin 2) j (col (headOf s p) d)) := by
  have e : ∀ b : Fin 2, flat (kvBlk k b s) (ix2 j (colOf p d)) = k (ix3 b j (col (headOf s p) d)) := fun b => by
    rw [flat_apply]
    unfold kvBlk
    refine congrArg k (funext fun a => ?_)
    match a with
    | ⟨0, _⟩ => rfl
    | ⟨1, _⟩ => rfl
    | ⟨2, _⟩ => exact Fin.ext (by show 256 * s.val + (64 * (p.val % 4) + d.val) = (4 * s.val + p.val % 4) * 64 + d.val; omega)
  by_cases hp : p.val < 4
  · rw [if_pos hp, e, show (⟨p.val / 4, by omega⟩ : Fin 2) = 0 from Fin.ext (by show p.val / 4 = 0; omega)]
  · rw [if_neg hp, e, show (⟨p.val / 4, by omega⟩ : Fin 2) = 1 from Fin.ext (by show p.val / 4 = 1; omega)]

variable {I : Ins Ideal} {A : Arrays} (K : Cut I A)
include K

theorem query_cut (c s p : Fin 8) (i : Fin 128) (d : Fin 64) :
    qVal (F := Ideal) (k0_pay1 (F := Ideal) (I.x c)) (k0_pay2 (F := Ideal) (I.wq s)) (ix2 (rowOf p i) (colOf p d))
      = query A (batchOf c p) (headOf s p) i d := by
  rw [q_apply]
  unfold query
  refine Finset.sum_congr rfl fun k _ => ?_
  rw [pay1_apply, pay2_apply, K.wq]
  refine congrArg₂ (· * ·) (K.x c ⟨p.val / 4, by omega⟩ i k) (congrArg (fun u => A.wq (ix2 k u)) (Fin.ext ?_))
  show 256 * s.val + (64 * (p.val % 4) + d.val) = (4 * s.val + p.val % 4) * 64 + d.val
  omega

theorem score_cut (c s p : Fin 8) (i j : Fin 128) :
    scores (qVal (k0_pay1 (I.x c)) (k0_pay2 (I.wq s))) (flat (kvBlk (I.k c) 0 s)) (flat (kvBlk (I.k c) 1 s)) (ix3 p i j)
        * Ideal.ofBits .f32 0x3E000000#32
      = Cert.Own.score A (batchOf c p) (headOf s p) i j := by
  rw [scores_apply, score_apply]
  unfold Cert.Own.score
  refine congrArg (· * _) (Finset.sum_congr rfl fun d _ => ?_)
  rw [query_cut K, kv_apply, K.k]
  rfl

theorem weights_cut (c s p : Fin 8) (i j : Fin 128) :
    weights maskVal (scores (qVal (k0_pay1 (I.x c)) (k0_pay2 (I.wq s))) (flat (kvBlk (I.k c) 0 s)) (flat (kvBlk (I.k c) 1 s)))
        (ix3 p i j)
      = Ideal.exp (Cert.Own.score A (batchOf c p) (headOf s p) i j) * (if Keep i j then 1 else 0) := by
  rw [weights_apply, score_cut K, mask_apply]

/-- One element of a tile is one element of the attention output. -/
theorem tile_cut (c s p : Fin 8) (i : Fin 128) (d : Fin 64) :
    ctxTile I c s p (ix3 0 i d) = ctxAfter A (batchOf c p) (headOf s p) d i := by
  unfold ctxTile attnTile
  rw [tile_apply, recip_apply]
  unfold ctxAfter rowAfter
  simp only [weights_cut K]
  refine congrArg (· * _) (Finset.sum_congr rfl fun j _ => ?_)
  rw [kv_apply, K.v]
  refine congrArg (· * _) ?_
  exact weights_cut K c s p i j

/-! ## The result -/

/-- One element of a block of the attention output. -/
theorem ctx_cut (c s : Fin 8) (b : Fin 2) (i : Fin 128) (u : Fin 256) :
    ctxBlk I c s (ix3 0 (⟨128 * b.val + i.val, by omega⟩ : Fin 256) u)
      = ctxAfter A ⟨2 * c.val + b.val, by omega⟩ ⟨(256 * s.val + u.val) / 64, by omega⟩
          ⟨(256 * s.val + u.val) % 64, by omega⟩ i := by
  have ht : tileOf (ix3 s (⟨128 * b.val + i.val, by omega⟩ : Fin 256) u) = ⟨4 * b.val + u.val / 64, by omega⟩ :=
    Fin.ext (by show 4 * ((128 * b.val + i.val) / 128) + u.val / 64 = 4 * b.val + u.val / 64; omega)
  have hi : (ix3 0 i (⟨u.val % 64, by omega⟩ : Fin 64) : S1x128x64.Idx)
      = (fun | 0 => (0 : Fin 1) | 1 => (⟨(128 * b.val + i.val) % 128, Nat.mod_lt _ (by decide)⟩ : Fin 128)
             | 2 => (⟨u.val % 64, Nat.mod_lt _ (by decide)⟩ : Fin 64)) := by
    funext a
    match a with
    | ⟨0, _⟩ => rfl
    | ⟨1, _⟩ => exact Fin.ext (by show i.val = (128 * b.val + i.val) % 128; omega)
    | ⟨2, _⟩ => rfl
  have h := tile_cut K c s ⟨4 * b.val + u.val / 64, by omega⟩ i ⟨u.val % 64, by omega⟩
  rw [hi, ← ht] at h
  refine Eq.trans (show _ = _ from rfl) (h.trans ?_)
  rw [ht]
  have hb : batchOf c ⟨4 * b.val + u.val / 64, by omega⟩ = ⟨2 * c.val + b.val, by omega⟩ :=
    Fin.ext (by show 2 * c.val + (4 * b.val + u.val / 64) / 4 = 2 * c.val + b.val; omega)
  have hh : headOf s ⟨4 * b.val + u.val / 64, by omega⟩ = ⟨(256 * s.val + u.val) / 64, by omega⟩ :=
    Fin.ext (by show 4 * s.val + (4 * b.val + u.val / 64) % 4 = (256 * s.val + u.val) / 64; omega)
  have hd : (⟨u.val % 64, by omega⟩ : Fin 64) = ⟨(256 * s.val + u.val) % 64, by omega⟩ :=
    Fin.ext (by show u.val % 64 = (256 * s.val + u.val) % 64; omega)
  rw [hb, hh, hd]

omit K in
/-- The columns of block `s` of one element of the result. -/
def part (A : Arrays) (c : Fin 8) (b : Fin 2) (i : Fin 128) (n : Fin 512) (s : Fin 8) : EReal :=
  ∑ u : Fin 256, ctxAfter A ⟨2 * c.val + b.val, by omega⟩ ⟨(s.val * 256 + u.val) / 64, by omega⟩
    ⟨(s.val * 256 + u.val) % 64, by omega⟩ i * A.wo (ix2 ⟨s.val * 256 + u.val, by omega⟩ n)

/-- One contribution: the columns of block `s`. -/
theorem prod_cut (c s : Fin 8) (b : Fin 2) (i : Fin 128) (n : Fin 512) :
    outProd (ctxBlk I c s) (k0_pay3 (F := Ideal) (I.wo s)) (ix2 (⟨128 * b.val + i.val, by omega⟩ : Fin 256) n)
      = part A c b i n s := by
  rw [outProd_apply]
  unfold part
  refine Finset.sum_congr rfl fun u _ => ?_
  rw [ctx_cut K, pay3_apply, K.wo]
  simp only [mul_comm 256 s.val]

omit K in
/-- The result after `n + 1` contributions is their sum. -/
theorem acc_sum (c : Fin 8) (j : S256x512.Idx) (n : ℕ) :
    acc I c (n + 1) j = ∑ t ∈ Finset.range (n + 1),
      outProd (ctxBlk I c (nb c (order (Fin.ofNat 8 t)))) (k0_pay3 (F := Ideal) (I.wo (nb c (order (Fin.ofNat 8 t))))) j := by
  induction n with
  | zero => rw [Finset.sum_range_one]; rfl
  | succ n ih =>
      rw [Finset.sum_range_succ, ← ih]
      obtain ⟨a, b, rfl⟩ : ∃ (a : Fin 256) (b : Fin 512), j = ix2 a b := ⟨j 0, j 1, eq_ix2 j⟩
      exact outNext_apply _ _ _ a b

omit K in
/-- Every block contributes once. -/
theorem order_bij (c : Fin 8) : Function.Bijective fun t : Fin 8 => nb c (order t) := by
  revert c; decide

/-- The kernel's result at an index. -/
theorem acc_cut (c : Fin 8) (b : Fin 2) (i : Fin 128) (n : Fin 512) :
    acc I c 8 (ix2 (⟨128 * b.val + i.val, by omega⟩ : Fin 256) n)
      = result (ctxAfter A) A ⟨2 * c.val + b.val, by omega⟩ i n := by
  unfold result
  rw [Fin.sum_univ_tiles 8 256 (by decide), acc_sum, Finset.sum_range]
  refine Eq.trans (Finset.sum_congr rfl fun t _ => ?_) ((order_bij c).sum_comp (part A c b i n))
  rw [show Fin.ofNat 8 t.val = t from Fin.ext (Nat.mod_eq_of_lt t.isLt), prod_cut K]

end Cert.KernelIdeal.Own
-- ==== Proof.RefTerm.lean ====
/- The reference's result as a composition of named stages: the block-sparse pattern, the masked scores, the
   exponentials, their sums, the weights, the attention output, the result. -/
module

public import proofs.«01_k».proof.Proof.Gen.ReferenceIdeal.Run
public import Idealize.ShloMosaic.PureOps.Ideal

@[expose] public section

noncomputable section

namespace Cert.ReferenceIdeal.Own

open Idealize.ShloMosaic Idealize.ShloMosaic.TcCoe Idealize.SL.Sem Cert.ReferenceIdeal Cert.ReferenceIdeal.Gen

/-- The block of each position: positions divided by 64, rounded down. -/
def blk : IVec S128 32 :=
    select (andi (cmpi .ne (signi (iotaInDim S128 32 0)) (broadcastInDim S128 ![] bcast_S_S128 (signi (id
    (constantI S_ 32 64#32))))) (cmpi .ne (Host.remsi (iotaInDim S128 32 0) (broadcastInDim S128 ![] bcast_S_S128
    (id (constantI S_ 32 64#32)))) (broadcastInDim S128 ![] bcast_S_S128 (constantI S_ 32 0#32)))) (subi
    (Host.divsi (iotaInDim S128 32 0) (broadcastInDim S128 ![] bcast_S_S128 (id (constantI S_ 32 64#32))))
    (broadcastInDim S128 ![] bcast_S_S128 (constantI S_ 32 1#32))) (Host.divsi (iotaInDim S128 32 0)
    (broadcastInDim S128 ![] bcast_S_S128 (id (constantI S_ 32 64#32))))

/-- The divisor of the third clause of the pattern. -/
def three : IVec S_ 32 :=
    select (cmpi .eq (id (constantI S_ 32 3#32)) (constantI S_ 32 0#32)) (constantI S_ 32 1#32) (id (constantI S_
    32 3#32))

/-- The query block of each pair of positions. -/
def rowB : IVec S128x128 32 :=
    broadcastInDim S128x128 ![0, 1] bcast_S128x1_S128x128_0_1 (broadcastInDim S128x1 ![0] bcast_S128_S128x1_0 blk)

/-- The key block of each key. -/
def colR : IVec S1x128 32 :=
    broadcastInDim S1x128 ![1] bcast_S128_S1x128_1 blk

/-- The sum of the two blocks, divided by three: the truncated remainder. -/
def remT : IVec S128x128 32 :=
    Host.remsi (addi rowB (broadcastInDim S128x128 ![0, 1] bcast_S1x128_S128x128_0_1 colR)) (broadcastInDim
    S128x128 ![] bcast_S_S128x128 three)

/-- The block-sparse pattern. -/
def maskT : IVec S128x128 1 :=
    ori (ori (cmpi .eq rowB (broadcastInDim S128x128 ![0, 1] bcast_S1x128_S128x128_0_1 colR)) (broadcastInDim
    S128x128 ![0, 1] bcast_S1x128_S128x128_0_1 (cmpi .eq colR (broadcastInDim S1x128 ![] bcast_S_S1x128 (constantI
    S_ 32 0#32))))) (cmpi .eq (select (andi (cmpi .ne (cmpi .slt remT (broadcastInDim S128x128 ![]
    bcast_S_S128x128 (constantI S_ 32 0#32))) (broadcastInDim S128x128 ![] bcast_S_S128x128 (cmpi .slt three
    (constantI S_ 32 0#32)))) (cmpi .ne remT (broadcastInDim S128x128 ![] bcast_S_S128x128 (constantI S_ 32
    0#32)))) (addi remT (broadcastInDim S128x128 ![] bcast_S_S128x128 three)) remT) (broadcastInDim S128x128 ![]
    bcast_S_S128x128 (constantI S_ 32 0#32)))

/-- Which query rows see some key. -/
def keepT : IVec S128 1 :=
    Host.reduce IntOp.ori maskT (constantI S_ 1 0#1) reducesTo_S128x128_S128_d1 h_S_

/-- The masked scores. -/
def scoreT (x : FVec Ideal S16x128x512 .f32) (wq : FVec Ideal S512x2048 .f32) (kk : FVec Ideal S16x128x32x64 .f32) : FVec Ideal S16x32x128x128 .f32 :=
    select (broadcastInDim S16x32x128x128 ![0, 1, 2, 3] bcast_S1x1x128x128_S16x32x128x128_0_1_2_3 (broadcastInDim
    S1x1x128x128 ![2, 3] bcast_S128x128_S1x1x128x128_2_3 maskT)) (mulf (Host.dotGeneral
    dot_S16x128x32x64_S16x128x32x64_S16x32x128x128_3_3_1_1_02_02 none (shapeCast _ (Host.dotGeneral
    dot_S16x128x512_S512x2048_S16x128x2048_2_0_01_1_n_n none x wq) shapeCasts_S16x128x2048_S16x128x32x64) kk)
    (broadcastInDim S16x32x128x128 ![] bcast_S_S16x32x128x128 (constant S_ .f32 0x3E000000#32))) (broadcastInDim
    S16x32x128x128 ![] bcast_S_S16x32x128x128 (id (constant S_ .f32 0xFF800000#32)))

/-- The exponentials of the scores less their row maximum. -/
def expT (x : FVec Ideal S16x128x512 .f32) (wq : FVec Ideal S512x2048 .f32) (kk : FVec Ideal S16x128x32x64 .f32) : FVec Ideal S16x32x128x128 .f32 :=
    Host.exp (subf (scoreT x wq kk) (broadcastInDim S16x32x128x128 ![0, 1, 2, 3]
    bcast_S16x32x128x1_S16x32x128x128_0_1_2_3 (broadcastInDim S16x32x128x1 ![0, 1, 2]
    bcast_S16x32x128_S16x32x128x1_0_1_2 (Host.reduce FloatOps.maximumf (scoreT x wq kk) (constant S_ .f32
    0xFF800000#32) reducesTo_S16x32x128x128_S16x32x128_d3 h_S_))))

/-- The row sums of the exponentials. -/
def sumT (x : FVec Ideal S16x128x512 .f32) (wq : FVec Ideal S512x2048 .f32) (kk : FVec Ideal S16x128x32x64 .f32) : FVec Ideal S16x32x128 .f32 :=
    Host.reduceAdd (expT x wq kk) (constant S_ .f32 0x00000000#32) reducesTo_S16x32x128x128_S16x32x128_d3 h_S_

/-- The attention weights. -/
def probT (x : FVec Ideal S16x128x512 .f32) (wq : FVec Ideal S512x2048 .f32) (kk : FVec Ideal S16x128x32x64 .f32) : FVec Ideal S16x32x128x128 .f32 :=
    select (broadcastInDim S16x32x128x128 ![0, 1, 2, 3] bcast_S1x1x128x1_S16x32x128x128_0_1_2_3 (broadcastInDim
    S1x1x128x1 ![2] bcast_S128_S1x1x128x1_2 keepT)) (Host.divf (expT x wq kk) (broadcastInDim S16x32x128x128 ![0,
    1, 2, 3] bcast_S16x32x128x1_S16x32x128x128_0_1_2_3 (select (broadcastInDim S16x32x128x1 ![0, 1, 2, 3]
    bcast_S1x1x128x1_S16x32x128x1_0_1_2_3 (broadcastInDim S1x1x128x1 ![2] bcast_S128_S1x1x128x1_2 keepT))
    (broadcastInDim S16x32x128x1 ![0, 1, 2] bcast_S16x32x128_S16x32x128x1_0_1_2 (sumT x wq kk)) (broadcastInDim
    S16x32x128x1 ![] bcast_S_S16x32x128x1 (id (constant S_ .f32 0x3F800000#32)))))) (broadcastInDim S16x32x128x128
    ![] bcast_S_S16x32x128x128 (id (constant S_ .f32 0x00000000#32)))

/-- The attention output, head by head. -/
def ctxT (x : FVec Ideal S16x128x512 .f32) (wq : FVec Ideal S512x2048 .f32) (kk : FVec Ideal S16x128x32x64 .f32) (vv : FVec Ideal S16x128x32x64 .f32) : FVec Ideal S16x32x64x128 .f32 :=
    Host.dotGeneral dot_S16x128x32x64_S16x32x128x128_S16x32x64x128_1_3_3_2_02_01 none vv (probT x wq kk)

/-- The result. -/
def outT (x : FVec Ideal S16x128x512 .f32) (wq : FVec Ideal S512x2048 .f32) (kk : FVec Ideal S16x128x32x64 .f32) (vv : FVec Ideal S16x128x32x64 .f32) (wo : FVec Ideal S2048x512 .f32) : FVec Ideal S16x128x512 .f32 :=
    Host.dotGeneral dot_S16x128x2048_S2048x512_S16x128x512_2_0_01_1_n_n none (shapeCast _ (transpose S16x128x32x64
    [0, 3, 1, 2] (ctxT x wq kk vv) transposes_S16x32x64x128_S16x128x32x64_0_3_1_2)
    shapeCasts_S16x128x32x64_S16x128x2048) wo

/-- The generated composed term is this composition. -/
theorem res_eq (m : (ℓ : Loc nD τ sig) → Buf (Elt Ideal) ℓ) (c : Dev nD) :
    Cert.ReferenceIdeal.Value.res_main_v44 m c = outT (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) := by
  unfold Cert.ReferenceIdeal.Value.res_main_v44
  rfl

end Cert.ReferenceIdeal.Own
-- ==== Proof.RefValue.lean ====
/- The reference's result read at an index. -/
module

public import proofs.«01_k».proof.Proof.RefTerm
public import proofs.«01_k».proof.Proof.Spec
public import Idealize.ShloMosaic.Lib.Pointwise

@[expose] public section

set_option maxRecDepth 16384

noncomputable section

namespace Cert.ReferenceIdeal.Own

open Idealize.ShloMosaic Idealize.ShloMosaic.TcCoe Idealize.SL.Sem Cert.ReferenceIdeal Cert.ReferenceIdeal.Gen Cert.Own

theorem blk_apply (i : Fin 128) : blk (ix1 i) = if i.val < 64 then 0#32 else 1#32 := by
  revert i; decide +kernel

theorem three_apply : three ix0 = 3#32 := rfl

theorem mask_apply (i j : Fin 128) : maskT (ix2 i j) = if Keep i j then 1#1 else 0#1 := by
  pointwise [maskT, remT, rowB, colR]
  rw [blk_apply, blk_apply, three_apply]
  by_cases hi : i.val < 64 <;> by_cases hj : j.val < 64
  · rw [if_pos hi, if_pos hj, if_pos (show Keep i j from .inl hj)]; decide
  · rw [if_pos hi, if_neg hj, if_neg (show ¬Keep i j from fun h => by unfold Keep at h; omega)]; decide
  · rw [if_neg hi, if_pos hj, if_pos (show Keep i j from .inl hj)]; decide
  · rw [if_neg hi, if_neg hj, if_pos (show Keep i j from .inr (by omega))]; decide

/-- Every query row sees the first key. -/
theorem keep_apply (i : Fin 128) : keepT (ix1 i) = 1#1 := by
  pointwise [keepT]
  have h0 : maskT (ix2 i 0) = 1#1 := by rw [mask_apply, if_pos (keep_first i)]
  rw [← Finset.insert_erase (Finset.mem_univ (0 : Fin 128)), Finset.fold_insert (Finset.notMem_erase _ _), h0]
  exact (show ∀ w : BitVec 1, IntOp.ori 1#1 w = 1#1 by decide) _

theorem neg_inf : Ideal.ofBits .f32 0xFF800000#32 = ⊥ := by simp [Ideal.ofBits, Ideal.ieee]

variable (A : Arrays)

theorem score_apply (b : Fin 16) (h : Fin 32) (i j : Fin 128) :
    scoreT A.x A.wq A.k (ix4 b h i j) = masked (Keep i) (score A b h i) j := by
  pointwise [scoreT]
  rw [mask_apply]
  unfold masked
  by_cases hk : Keep i j
  · rw [if_pos hk, if_pos hk]; rfl
  · rw [if_neg hk, if_neg hk]; exact neg_inf

theorem exp_apply (b : Fin 16) (h : Fin 32) (i j : Fin 128) :
    expT A.x A.wq A.k (ix4 b h i j) = shifted (Keep i) (score A b h i) j := by
  pointwise [expT]
  simp only [score_apply, neg_inf]
  rfl

theorem sum_apply (b : Fin 16) (h : Fin 32) (i : Fin 128) :
    sumT A.x A.wq A.k (ix3 b h i) = ∑ j, shifted (Keep i) (score A b h i) j := by
  pointwise [sumT]
  simp only [exp_apply]

theorem prob_apply (b : Fin 16) (h : Fin 32) (i j : Fin 128) :
    probT A.x A.wq A.k (ix4 b h i j)
      = Ideal.div (shifted (Keep i) (score A b h i) j) (∑ j, shifted (Keep i) (score A b h i) j) := by
  pointwise [probT]
  rw [keep_apply, exp_apply, sum_apply]
  rfl

theorem ctx_apply (b : Fin 16) (h : Fin 32) (d : Fin 64) (i : Fin 128) :
    ctxT A.x A.wq A.k A.v (ix4 b h d i) = ctxBefore A b h d i := by
  pointwise [ctxT]
  simp only [prob_apply]
  rfl

/-- The reference's result at an index. -/
theorem out_apply (b : Fin 16) (i : Fin 128) (n : Fin 512) :
    outT A.x A.wq A.k A.v A.wo (ix3 b i n) = result (ctxBefore A) A b i n := by
  pointwise [outT]
  simp only [ctx_apply]
  rfl

end Cert.ReferenceIdeal.Own
-- ==== Proof.Meet.lean ====
/- The kernel's idealization and the reference's compute the same array, where activations, query weights and keys are
   finite. -/
module

public import proofs.«01_k».proof.Defs
public import proofs.«01_k».proof.Proof.HostValue
public import proofs.«01_k».proof.Proof.KerValue
public import proofs.«01_k».proof.Proof.RefValue
public import Idealize.ShloMosaic.Lib.LayoutAt

@[expose] public section

noncomputable section

namespace Cert.Own

open Idealize.ShloMosaic Idealize.ShloMosaic.TcCoe Idealize.SL.Sem

/-! ## Finite means real -/

/-- A value below positive infinity in size is a real. -/
theorem real_of_abs_lt (x : EReal) (h : Ideal.cmp .olt (max x (-x)) (Ideal.ofBits .f32 0x7F800000#32) = 1#1) : IsReal x := by
  rw [show Ideal.ofBits .f32 0x7F800000#32 = ⊤ by simp [Ideal.ofBits, Ideal.ieee]] at h
  induction x with
  | bot => simp [Ideal.cmp] at h
  | coe r => exact ⟨r, rfl⟩
  | top => simp [Ideal.cmp] at h

/-- The precondition's side conditions, at a block's shapes. -/
theorem facts_block : Cert.Pre_finite_KernelIdeal.Facts := by
  constructor <;> decide

/-- The precondition's side conditions, at the whole arrays' shapes. -/
theorem facts_whole : Cert.Pre_finite_ReferenceIdeal.Facts := by
  constructor <;> decide

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's arguments. -/
def whole : Arrays where
  x := m' (((0 : Dev Cert.ReferenceIdeal.nD) : Thread Cert.ReferenceIdeal.nD Cert.ReferenceIdeal.τ).loc Cert.ReferenceIdeal.main_arg0)
  wq := m' (((0 : Dev Cert.ReferenceIdeal.nD) : Thread Cert.ReferenceIdeal.nD Cert.ReferenceIdeal.τ).loc Cert.ReferenceIdeal.main_arg1)
  k := m' (((0 : Dev Cert.ReferenceIdeal.nD) : Thread Cert.ReferenceIdeal.nD Cert.ReferenceIdeal.τ).loc Cert.ReferenceIdeal.main_arg2)
  v := m' (((0 : Dev Cert.ReferenceIdeal.nD) : Thread Cert.ReferenceIdeal.nD Cert.ReferenceIdeal.τ).loc Cert.ReferenceIdeal.main_arg3)
  wo := m' (((0 : Dev Cert.ReferenceIdeal.nD) : Thread Cert.ReferenceIdeal.nD Cert.ReferenceIdeal.τ).loc Cert.ReferenceIdeal.main_arg4)

/-- The devices' arguments are their parts of the whole arrays. -/
structure Parts (A : Arrays) : Prop where
  x : ∀ c : Dev Cert.KernelIdeal.nD, m ((c : Thread Cert.KernelIdeal.nD Cert.KernelIdeal.τ).loc Cert.KernelIdeal.main_arg0)
    = Layout.block ⟨3, ![2, 128, 512]⟩ ⟨3, ![16, 128, 512]⟩ 0 8 c A.x
  wq : ∀ c : Dev Cert.KernelIdeal.nD, m ((c : Thread Cert.KernelIdeal.nD Cert.KernelIdeal.τ).loc Cert.KernelIdeal.main_arg1)
    = Layout.block ⟨2, ![512, 256]⟩ ⟨2, ![512, 2048]⟩ 1 8 c A.wq
  k : ∀ c : Dev Cert.KernelIdeal.nD, m ((c : Thread Cert.KernelIdeal.nD Cert.KernelIdeal.τ).loc Cert.KernelIdeal.main_arg2) = A.k
  v : ∀ c : Dev Cert.KernelIdeal.nD, m ((c : Thread Cert.KernelIdeal.nD Cert.KernelIdeal.τ).loc Cert.KernelIdeal.main_arg3) = A.v
  wo : ∀ c : Dev Cert.KernelIdeal.nD, m ((c : Thread Cert.KernelIdeal.nD Cert.KernelIdeal.τ).loc Cert.KernelIdeal.main_arg4)
    = Layout.block ⟨2, ![256, 512]⟩ ⟨2, ![2048, 512]⟩ 0 8 c A.wo

/-! ## Blocks read at an index -/

theorem x_block (X : FVec Ideal ⟨3, ![16, 128, 512]⟩ .f32) (c : Fin 8) (b : Fin 2) (i : Fin 128) (k : Fin 512) :
    Layout.block ⟨3, ![2, 128, 512]⟩ ⟨3, ![16, 128, 512]⟩ 0 8 c X (by decide) (ix3 b i k)
      = X (ix3 (⟨2 * c.val + b.val, by omega⟩ : Fin 16) i k) := by
  shard_ext

theorem wq_block (X : FVec Ideal ⟨2, ![512, 2048]⟩ .f32) (s : Fin 8) (k : Fin 512) (q : Fin 256) :
    Layout.block ⟨2, ![512, 256]⟩ ⟨2, ![512, 2048]⟩ 1 8 s X (by decide) (ix2 k q)
      = X (ix2 k (⟨256 * s.val + q.val, by omega⟩ : Fin 2048)) := by
  shard_ext

theorem wo_block (X : FVec Ideal ⟨2, ![2048, 512]⟩ .f32) (s : Fin 8) (q : Fin 256) (n : Fin 512) :
    Layout.block ⟨2, ![256, 512]⟩ ⟨2, ![2048, 512]⟩ 0 8 s X (by decide) (ix2 q n)
      = X (ix2 (⟨256 * s.val + q.val, by omega⟩ : Fin 2048) n) := by
  shard_ext

/-! ## The operands are the parts -/

variable {m} {A : Arrays} (P : Parts m A)

include P in
theorem cut_of_parts : Cert.KernelIdeal.Own.Cut (Cert.KernelIdeal.Own.insOf m) A where
  x c b i k := (Cert.KernelIdeal.Own.x_at m c b i k).trans ((congrFun (P.x c) _).trans (x_block A.x c b i k))
  wq s k q := (congrFun ((Cert.KernelIdeal.Own.wq_at m s).trans (P.wq s)) _).trans (wq_block A.wq s k q)
  k c b j h d := (Cert.KernelIdeal.Own.k_at m c b j h d).trans (congrFun (P.k c) _)
  v c b j h d := (Cert.KernelIdeal.Own.v_at m c b j h d).trans (congrFun (P.v c) _)
  wo s q n := (congrFun ((Cert.KernelIdeal.Own.wo_at m s).trans (P.wo s)) _).trans (wo_block A.wo s q n)

/-! ## The precondition, of the whole arrays -/

variable (H : Pre_KernelIdeal_finite_KernelIdeal (hPre_finite_KernelIdeal := facts_block) m)

include P H in
theorem x_real (i : (⟨3, ![16, 128, 512]⟩ : Shape).Idx) : IsReal (A.x i) := by
  obtain ⟨b, r, k, rfl⟩ : ∃ (b : Fin 16) (r : Fin 128) (k : Fin 512), i = ix3 b r k := ⟨i 0, i 1, i 2, by
    funext a; fin_cases a <;> rfl⟩
  have e := (congrFun (P.x (⟨b.val / 2, by omega⟩ : Fin 8)) (ix3 (⟨b.val % 2, by omega⟩ : Fin 2) r k)).trans (x_block A.x _ _ r k)
  have hb : (⟨2 * (b.val / 2) + b.val % 2, by omega⟩ : Fin 16) = b := Fin.ext (by simp only; omega)
  have e' := e.trans (congrArg (fun b => A.x (ix3 b r k)) hb)
  exact e' ▸ real_of_abs_lt _ (congrFun (H (⟨b.val / 2, by omega⟩ : Fin 8)).1 (ix3 (⟨b.val % 2, by omega⟩ : Fin 2) r k))

include P H in
theorem wq_real (i : (⟨2, ![512, 2048]⟩ : Shape).Idx) : IsReal (A.wq i) := by
  obtain ⟨k, u, rfl⟩ : ∃ (k : Fin 512) (u : Fin 2048), i = ix2 k u := ⟨i 0, i 1, by
    funext a; fin_cases a <;> rfl⟩
  have e := (congrFun (P.wq (⟨u.val / 256, by omega⟩ : Fin 8)) (ix2 k (⟨u.val % 256, by omega⟩ : Fin 256))).trans (wq_block A.wq _ k _)
  have hu : (⟨256 * (u.val / 256) + u.val % 256, by omega⟩ : Fin 2048) = u := Fin.ext (by simp only; omega)
  have e' := e.trans (congrArg (fun u => A.wq (ix2 k u)) hu)
  exact e' ▸ real_of_abs_lt _ (congrFun (H (⟨u.val / 256, by omega⟩ : Fin 8)).2.1 (ix2 k (⟨u.val % 256, by omega⟩ : Fin 256)))

include P H in
theorem k_real (i : (⟨4, ![16, 128, 32, 64]⟩ : Shape).Idx) : IsReal (A.k i) :=
  congrFun (P.k 0) i ▸ real_of_abs_lt _ (congrFun (H 0).2.2 i)

/-! ## The two results -/

include P H in
/-- Each device ends with its block of the reference's result. -/
theorem result_block (c : Fin 8) :
    Cert.KernelIdeal.Gen.V3 m (Cert.KernelIdeal.Own.outs m) c Cert.KernelIdeal.main_v21
      = Layout.block ⟨3, ![2, 128, 512]⟩ ⟨3, ![16, 128, 512]⟩ 0 8 c (Cert.ReferenceIdeal.Own.outT A.x A.wq A.k A.v A.wo) := by
  funext z
  obtain ⟨b, i, n, rfl⟩ : ∃ (b : Fin 2) (i : Fin 128) (n : Fin 512), z = ix3 b i n := ⟨z 0, z 1, z 2, by
    funext a; fin_cases a <;> rfl⟩
  refine (Cert.KernelIdeal.Own.out_at m c b i n).trans ?_
  refine (Cert.KernelIdeal.Own.acc_cut (cut_of_parts P) c b i n).trans ?_
  rw [ctx_eq A (x_real P H) (wq_real P H) (k_real P H)]
  exact (Cert.ReferenceIdeal.Own.out_apply A _ i n).symm.trans (x_block _ c b i n).symm

/-- Both programs run from matching arguments, and the devices end with their blocks of the reference's result. -/
theorem algebraic : algebraic_KernelIdeal_ReferenceIdeal_pre_finite_KernelIdeal (hKernelIdeal := Cert.KernelIdeal.Gen.facts)
    (hReferenceIdeal := Cert.ReferenceIdeal.Gen.facts) (hPre_finite_KernelIdeal := facts_block) := fun m g m' g' H E => by
  have P : Parts m (whole m') := ⟨fun c => (E c).1, fun c => (E c).2.1, fun c => (E c).2.2.1, fun c => (E c).2.2.2.1,
    fun c => (E c).2.2.2.2⟩
  refine ⟨Cert.ReferenceIdeal.Value.res_main_v44 m' 0, ?_, ?_⟩
  · refine (θ_run Cert.KernelIdeal.defs _ _).mono (fun r h c => ?_) (Cert.KernelIdeal.Own.run_main m g)
    obtain ⟨⟨a0, a1, a2, a3, a4⟩, o⟩ := h.1 c
    rw [Cert.ReferenceIdeal.Own.res_eq m' 0]
    exact ⟨o.trans (result_block P H c), a0, a1, a2, a3, a4⟩
  · exact (θ_run Cert.ReferenceIdeal.defs _ _).mono (fun r h => h 0) (Cert.ReferenceIdeal.Value.run (F := Ideal) m' g')

end Cert.Own
-- ==== Proof.lean ====
/- The certificate: the frames of the kernel, of its idealization and of the reference, and the equality of the two
   idealized results where activations, query weights and keys are finite. -/
module

public import proofs.«01_k».proof.Defs
public import proofs.«01_k».proof.Proof.Frames
public import proofs.«01_k».proof.Proof.RefFrame
public import proofs.«01_k».proof.Proof.Meet
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.ReferenceIdeal.Run

@[expose] public section

noncomputable section

namespace Cert.Proof

theorem claim : Cert.Claim :=
  ⟨Cert.Kernel.Gen.facts, Cert.KernelIdeal.Gen.facts, Cert.ReferenceIdeal.Gen.facts, Cert.Own.facts_block, Cert.Own.facts_whole,
    Cert.KernelIdeal.Own.frame_kernel, Cert.KernelIdeal.Own.frame_ideal,
    fun m ρ _ => Cert.KernelIdeal.Own.frame_ideal m ρ trivial, Cert.ReferenceIdeal.Own.frame_reference,
    fun m ρ _ => Cert.ReferenceIdeal.Own.frame_reference m ρ trivial, trivial, Cert.Own.algebraic⟩

end Cert.Proof

end
